-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_v166) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S4096x2 : Shape := ⟨2, ![4096, 2]⟩
abbrev S1024x2 : Shape := ⟨2, ![1024, 2]⟩
abbrev S256x2 : Shape := ⟨2, ![256, 2]⟩
abbrev S64x2 : Shape := ⟨2, ![64, 2]⟩
abbrev S16x2 : Shape := ⟨2, ![16, 2]⟩
abbrev S200x4 : Shape := ⟨2, ![200, 4]⟩
abbrev S80x2 : Shape := ⟨2, ![80, 2]⟩
abbrev S200 : Shape := ⟨1, ![200]⟩
abbrev S5456x200 : Shape := ⟨2, ![5456, 200]⟩
abbrev S200x1 : Shape := ⟨2, ![200, 1]⟩
abbrev S_ : Shape := ⟨0, ![]⟩
abbrev S200x2 : Shape := ⟨2, ![200, 2]⟩
abbrev S1x200x2 : Shape := ⟨3, ![1, 200, 2]⟩
abbrev S4096x1x2 : Shape := ⟨3, ![4096, 1, 2]⟩
abbrev S4096x200x2 : Shape := ⟨3, ![4096, 200, 2]⟩
abbrev S4096x200x1 : Shape := ⟨3, ![4096, 200, 1]⟩
abbrev S4096x200 : Shape := ⟨2, ![4096, 200]⟩
abbrev S1024x1x2 : Shape := ⟨3, ![1024, 1, 2]⟩
abbrev S1024x200x2 : Shape := ⟨3, ![1024, 200, 2]⟩
abbrev S1024x200x1 : Shape := ⟨3, ![1024, 200, 1]⟩
abbrev S1024x200 : Shape := ⟨2, ![1024, 200]⟩
abbrev S256x1x2 : Shape := ⟨3, ![256, 1, 2]⟩
abbrev S256x200x2 : Shape := ⟨3, ![256, 200, 2]⟩
abbrev S256x200x1 : Shape := ⟨3, ![256, 200, 1]⟩
abbrev S256x200 : Shape := ⟨2, ![256, 200]⟩
abbrev S64x1x2 : Shape := ⟨3, ![64, 1, 2]⟩
abbrev S64x200x2 : Shape := ⟨3, ![64, 200, 2]⟩
abbrev S64x200x1 : Shape := ⟨3, ![64, 200, 1]⟩
abbrev S64x200 : Shape := ⟨2, ![64, 200]⟩
abbrev S16x1x2 : Shape := ⟨3, ![16, 1, 2]⟩
abbrev S16x200x2 : Shape := ⟨3, ![16, 200, 2]⟩
abbrev S16x200x1 : Shape := ⟨3, ![16, 200, 1]⟩
abbrev S16x200 : Shape := ⟨2, ![16, 200]⟩
abbrev S200x5456 : Shape := ⟨2, ![200, 5456]⟩
abbrev S200x10 : Shape := ⟨2, ![200, 10]⟩
abbrev S200x9 : Shape := ⟨2, ![200, 9]⟩

class Facts : Prop where
  slices_S200x4_S200x1_0_0 : S200x4.Slices ![0, 0] S200x1
  shapeCasts_S200x1_S200 : S200x1.ShapeCasts S200
  slices_S200x4_S200x1_0_2 : S200x4.Slices ![0, 2] S200x1
  bcast_S_S200 : S_.BroadcastsInDim S200 (![] : Fin 0 → Fin S200.rank)
  slices_S200x4_S200x1_0_1 : S200x4.Slices ![0, 1] S200x1
  slices_S200x4_S200x1_0_3 : S200x4.Slices ![0, 3] S200x1
  bcast_S200_S200x1_0 : S200.BroadcastsInDim S200x1 (![0] : Fin 1 → Fin S200x1.rank)
  concatenates_S200x1_S200x1_S200x2_d1 : Shape.Concatenates [S200x1, S200x1] S200x2 1
  bcast_S200x2_S1x200x2_1_2 : S200x2.BroadcastsInDim S1x200x2 (![1, 2] : Fin 2 → Fin S1x200x2.rank)
  bcast_S4096x2_S4096x1x2_0_2 : S4096x2.BroadcastsInDim S4096x1x2 (![0, 2] : Fin 2 → Fin S4096x1x2.rank)
  bcast_S4096x1x2_S4096x200x2_0_1_2 : S4096x1x2.BroadcastsInDim S4096x200x2 (![0, 1, 2] : Fin 3 → Fin S4096x200x2.rank)
  bcast_S1x200x2_S4096x200x2_0_1_2 : S1x200x2.BroadcastsInDim S4096x200x2 (![0, 1, 2] : Fin 3 → Fin S4096x200x2.rank)
  bcast_S_S4096x200x2 : S_.BroadcastsInDim S4096x200x2 (![] : Fin 0 → Fin S4096x200x2.rank)
  bcast_S_S1x200x2 : S_.BroadcastsInDim S1x200x2 (![] : Fin 0 → Fin S1x200x2.rank)
  slices_S4096x200x2_S4096x200x1_0_0_0 : S4096x200x2.Slices ![0, 0, 0] S4096x200x1
  shapeCasts_S4096x200x1_S4096x200 : S4096x200x1.ShapeCasts S4096x200
  slices_S4096x200x2_S4096x200x1_0_0_1 : S4096x200x2.Slices ![0, 0, 1] S4096x200x1
  bcast_S1024x2_S1024x1x2_0_2 : S1024x2.BroadcastsInDim S1024x1x2 (![0, 2] : Fin 2 → Fin S1024x1x2.rank)
  bcast_S1024x1x2_S1024x200x2_0_1_2 : S1024x1x2.BroadcastsInDim S1024x200x2 (![0, 1, 2] : Fin 3 → Fin S1024x200x2.rank)
  bcast_S1x200x2_S1024x200x2_0_1_2 : S1x200x2.BroadcastsInDim S1024x200x2 (![0, 1, 2] : Fin 3 → Fin S1024x200x2.rank)
  bcast_S_S1024x200x2 : S_.BroadcastsInDim S1024x200x2 (![] : Fin 0 → Fin S1024x200x2.rank)
  slices_S1024x200x2_S1024x200x1_0_0_0 : S1024x200x2.Slices ![0, 0, 0] S1024x200x1
  shapeCasts_S1024x200x1_S1024x200 : S1024x200x1.ShapeCasts S1024x200
  slices_S1024x200x2_S1024x200x1_0_0_1 : S1024x200x2.Slices ![0, 0, 1] S1024x200x1
  bcast_S256x2_S256x1x2_0_2 : S256x2.BroadcastsInDim S256x1x2 (![0, 2] : Fin 2 → Fin S256x1x2.rank)
  bcast_S256x1x2_S256x200x2_0_1_2 : S256x1x2.BroadcastsInDim S256x200x2 (![0, 1, 2] : Fin 3 → Fin S256x200x2.rank)
  bcast_S1x200x2_S256x200x2_0_1_2 : S1x200x2.BroadcastsInDim S256x200x2 (![0, 1, 2] : Fin 3 → Fin S256x200x2.rank)
  bcast_S_S256x200x2 : S_.BroadcastsInDim S256x200x2 (![] : Fin 0 → Fin S256x200x2.rank)
  slices_S256x200x2_S256x200x1_0_0_0 : S256x200x2.Slices ![0, 0, 0] S256x200x1
  shapeCasts_S256x200x1_S256x200 : S256x200x1.ShapeCasts S256x200
  slices_S256x200x2_S256x200x1_0_0_1 : S256x200x2.Slices ![0, 0, 1] S256x200x1
  bcast_S64x2_S64x1x2_0_2 : S64x2.BroadcastsInDim S64x1x2 (![0, 2] : Fin 2 → Fin S64x1x2.rank)
  bcast_S64x1x2_S64x200x2_0_1_2 : S64x1x2.BroadcastsInDim S64x200x2 (![0, 1, 2] : Fin 3 → Fin S64x200x2.rank)
  bcast_S1x200x2_S64x200x2_0_1_2 : S1x200x2.BroadcastsInDim S64x200x2 (![0, 1, 2] : Fin 3 → Fin S64x200x2.rank)
  bcast_S_S64x200x2 : S_.BroadcastsInDim S64x200x2 (![] : Fin 0 → Fin S64x200x2.rank)
  slices_S64x200x2_S64x200x1_0_0_0 : S64x200x2.Slices ![0, 0, 0] S64x200x1
  shapeCasts_S64x200x1_S64x200 : S64x200x1.ShapeCasts S64x200
  slices_S64x200x2_S64x200x1_0_0_1 : S64x200x2.Slices ![0, 0, 1] S64x200x1
  bcast_S16x2_S16x1x2_0_2 : S16x2.BroadcastsInDim S16x1x2 (![0, 2] : Fin 2 → Fin S16x1x2.rank)
  bcast_S16x1x2_S16x200x2_0_1_2 : S16x1x2.BroadcastsInDim S16x200x2 (![0, 1, 2] : Fin 3 → Fin S16x200x2.rank)
  bcast_S1x200x2_S16x200x2_0_1_2 : S1x200x2.BroadcastsInDim S16x200x2 (![0, 1, 2] : Fin 3 → Fin S16x200x2.rank)
  bcast_S_S16x200x2 : S_.BroadcastsInDim S16x200x2 (![] : Fin 0 → Fin S16x200x2.rank)
  slices_S16x200x2_S16x200x1_0_0_0 : S16x200x2.Slices ![0, 0, 0] S16x200x1
  shapeCasts_S16x200x1_S16x200 : S16x200x1.ShapeCasts S16x200
  slices_S16x200x2_S16x200x1_0_0_1 : S16x200x2.Slices ![0, 0, 1] S16x200x1
  concatenates_S4096x200_S1024x200_S256x200_S64x200_S16x200_S5456x200_d0 : Shape.Concatenates [S4096x200, S1024x200, S256x200, S64x200, S16x200] S5456x200 0
  transposes_S5456x200_S200x5456_1_0 : S5456x200.Transposes [1, 0] S200x5456
  sliceFits_S200x5456_S200x10 : S200x5456.Slices (fun _ => 0) S200x10
  slices_S200x10_S200x9_0_0 : S200x10.Slices ![0, 0] S200x9
  slices_S200x10_S200x9_0_1 : S200x10.Slices ![0, 1] S200x9
  reducesTo_S200x9_S200_d1 : S200x9.ReducesTo [1] S200
  h_S_ : 0 < S_.numel
  gather_S80x2_S200x1_S200x2_1_0_n_n_0_1_12_wf : GatherDims.WF S80x2 S200x1 S200x2 [1] [0] [] [0] [] 1 ![1, 2]

variable [Facts]

def gather_S80x2_S200x1_S200x2_1_0_n_n_0_1_12 : GatherDims S80x2 S200x1 S200x2 where
  offsetDims := [1]
  collapsedSliceDims := [0]
  operandBatchingDims := []
  startIndicesBatchingDims := []
  startIndexMap := [0]
  indexVectorDim := 1
  sliceSizes := ![1, 2]
  wf := gather_S80x2_S200x1_S200x2_1_0_n_n_0_1_12_wf
def fn_part7 {F : FTy → Type} [FloatOps F] (main_arg8 : IVec S200 32) (main_v144 : IVec S200 1) (main_v146 : IVec S200 1) (main_c_16 : IVec S_ 32) : IVec S200 1 :=
  let main_v147 : IVec S200 32 := broadcastInDim S200 ![] bcast_S_S200 main_c_16
  let main_v148 : IVec S200 1 := cmpi .slt main_arg8 main_v147
  let main_v149 : IVec S200 1 := andi main_v146 main_v148
  let main_v150 : IVec S200 1 := andi main_v149 main_v144
  main_v150

def fn_part6 {F : FTy → Type} [FloatOps F] (main_arg8 : IVec S200 32) (main_v54 : FVec F S4096x200 .f32) (main_v75 : FVec F S1024x200 .f32) (main_v96 : FVec F S256x200 .f32) (main_v117 : FVec F S64x200 .f32) (main_v127 : FVec F S16x200x2 .f32) (main_v128 : FVec F S1x200x2 .f32) : IVec S200 1 :=
  let main_cst_13 : FVec F S_ .f32 := constant S_ .f32 0x40000000#32
  let main_v129 : FVec F S1x200x2 .f32 := broadcastInDim S1x200x2 ![] bcast_S_S1x200x2 main_cst_13
  let main_v130 : FVec F S1x200x2 .f32 := mulf main_v129 main_v128
  let main_v131 : FVec F S16x200x2 .f32 := broadcastInDim S16x200x2 ![0, 1, 2] bcast_S1x200x2_S16x200x2_0_1_2 main_v130
  let main_v132 : FVec F S16x200x2 .f32 := Host.divf main_v127 main_v131
  let main_v133 : FVec F S16x200x2 .f32 := Host.exp main_v132
  let main_v134 : FVec F S16x200x1 .f32 := (extractStridedSlice S16x200x1 ![0, 0, 0] · slices_S16x200x2_S16x200x1_0_0_0) main_v133
  let main_v135 : FVec F S16x200 .f32 := shapeCast S16x200 main_v134 shapeCasts_S16x200x1_S16x200
  let main_v136 : FVec F S16x200x1 .f32 := (extractStridedSlice S16x200x1 ![0, 0, 1] · slices_S16x200x2_S16x200x1_0_0_1) main_v133
  let main_v137 : FVec F S16x200 .f32 := shapeCast S16x200 main_v136 shapeCasts_S16x200x1_S16x200
  let main_v138 : FVec F S16x200 .f32 := mulf main_v135 main_v137
  let main_v139 : FVec F S5456x200 .f32 := concatenate S5456x200 0 [⟨S4096x200, main_v54⟩, ⟨S1024x200, main_v75⟩, ⟨S256x200, main_v96⟩, ⟨S64x200, main_v117⟩, ⟨S16x200, main_v138⟩] concatenates_S4096x200_S1024x200_S256x200_S64x200_S16x200_S5456x200_d0
  let main_v140 : FVec F S200x5456 .f32 := (transpose S200x5456 [1, 0] · transposes_S5456x200_S200x5456_1_0) main_v139
  let main_values : FVec F S200x10 .f32 := (fun x => (Host.topK S200x10 1 (FloatOps.cmpfTotal .gt) x sliceFits_S200x5456_S200x10).1) main_v140
  let main_indices : IVec S200x10 32 := (fun x => (Host.topK S200x10 1 (FloatOps.cmpfTotal .gt) x sliceFits_S200x5456_S200x10).2) main_v140
  let main_v141 : FVec F S200x9 .f32 := (extractStridedSlice S200x9 ![0, 0] · slices_S200x10_S200x9_0_0) main_values
  let main_v142 : FVec F S200x9 .f32 := (extractStridedSlice S200x9 ![0, 1] · slices_S200x10_S200x9_0_1) main_values
  let main_v143 : IVec S200x9 1 := cmpf .ogt main_v141 main_v142
  let main_c_14 : IVec S_ 1 := constantI S_ 1 1#1
  let main_v144 : IVec S200 1 := (fun x v => Host.reduce IntOp.andi x v reducesTo_S200x9_S200_d1 h_S_) main_v143 main_c_14
  let main_c_15 : IVec S_ 32 := constantI S_ 32 0#32
  let main_v145 : IVec S200 32 := broadcastInDim S200 ![] bcast_S_S200 main_c_15
  let main_v146 : IVec S200 1 := cmpi .sge main_arg8 main_v145
  let main_c_16 : IVec S_ 32 := constantI S_ 32 80#32
  fn_part7 (F := F) main_arg8 main_v144 main_v146 main_c_16

def fn_part5 {F : FTy → Type} [FloatOps F] (main_arg4 : FVec F S16x2 .f32) (main_arg8 : IVec S200 32) (main_v17 : FVec F S1x200x2 .f32) (main_v25 : FVec F S1x200x2 .f32) (main_v33 : FVec F S1x200x2 .f32) (main_v54 : FVec F S4096x200 .f32) (main_v75 : FVec F S1024x200 .f32) (main_v96 : FVec F S256x200 .f32) (main_v106 : FVec F S64x200x2 .f32) : IVec S200 1 :=
  let main_v107 : FVec F S1x200x2 .f32 := mulf main_v33 main_v33
  let main_cst_11 : FVec F S_ .f32 := constant S_ .f32 0x40000000#32
  let main_v108 : FVec F S1x200x2 .f32 := broadcastInDim S1x200x2 ![] bcast_S_S1x200x2 main_cst_11
  let main_v109 : FVec F S1x200x2 .f32 := mulf main_v108 main_v107
  let main_v110 : FVec F S64x200x2 .f32 := broadcastInDim S64x200x2 ![0, 1, 2] bcast_S1x200x2_S64x200x2_0_1_2 main_v109
  let main_v111 : FVec F S64x200x2 .f32 := Host.divf main_v106 main_v110
  let main_v112 : FVec F S64x200x2 .f32 := Host.exp main_v111
  let main_v113 : FVec F S64x200x1 .f32 := (extractStridedSlice S64x200x1 ![0, 0, 0] · slices_S64x200x2_S64x200x1_0_0_0) main_v112
  let main_v114 : FVec F S64x200 .f32 := shapeCast S64x200 main_v113 shapeCasts_S64x200x1_S64x200
  let main_v115 : FVec F S64x200x1 .f32 := (extractStridedSlice S64x200x1 ![0, 0, 1] · slices_S64x200x2_S64x200x1_0_0_1) main_v112
  let main_v116 : FVec F S64x200 .f32 := shapeCast S64x200 main_v115 shapeCasts_S64x200x1_S64x200
  let main_v117 : FVec F S64x200 .f32 := mulf main_v114 main_v116
  let main_v118 : FVec F S16x1x2 .f32 := broadcastInDim S16x1x2 ![0, 2] bcast_S16x2_S16x1x2_0_2 main_arg4
  let main_v119 : FVec F S16x200x2 .f32 := broadcastInDim S16x200x2 ![0, 1, 2] bcast_S16x1x2_S16x200x2_0_1_2 main_v118
  let main_v120 : FVec F S16x200x2 .f32 := broadcastInDim S16x200x2 ![0, 1, 2] bcast_S1x200x2_S16x200x2_0_1_2 main_v17
  let main_v121 : FVec F S16x200x2 .f32 := subf main_v119 main_v120
  let main_cst_12 : FVec F S_ .f32 := constant S_ .f32 0x43000000#32
  let main_v122 : FVec F S16x200x2 .f32 := broadcastInDim S16x200x2 ![] bcast_S_S16x200x2 main_cst_12
  let main_v123 : FVec F S16x200x2 .f32 := Host.divf main_v121 main_v122
  let main_v124 : FVec F S16x200x2 .f32 := broadcastInDim S16x200x2 ![0, 1, 2] bcast_S1x200x2_S16x200x2_0_1_2 main_v25
  let main_v125 : FVec F S16x200x2 .f32 := subf main_v123 main_v124
  let main_v126 : FVec F S16x200x2 .f32 := mulf main_v125 main_v125
  let main_v127 : FVec F S16x200x2 .f32 := Host.negf main_v126
  let main_v128 : FVec F S1x200x2 .f32 := mulf main_v33 main_v33
  fn_part6 (F := F) main_arg8 main_v54 main_v75 main_v96 main_v117 main_v127 main_v128

def fn_part4 {F : FTy → Type} [FloatOps F] (main_arg3 : FVec F S64x2 .f32) (main_arg4 : FVec F S16x2 .f32) (main_arg8 : IVec S200 32) (main_v17 : FVec F S1x200x2 .f32) (main_v25 : FVec F S1x200x2 .f32) (main_v33 : FVec F S1x200x2 .f32) (main_v54 : FVec F S4096x200 .f32) (main_v75 : FVec F S1024x200 .f32) (main_v84 : FVec F S256x200x2 .f32) : IVec S200 1 :=
  let main_v85 : FVec F S256x200x2 .f32 := Host.negf main_v84
  let main_v86 : FVec F S1x200x2 .f32 := mulf main_v33 main_v33
  let main_cst_9 : FVec F S_ .f32 := constant S_ .f32 0x40000000#32
  let main_v87 : FVec F S1x200x2 .f32 := broadcastInDim S1x200x2 ![] bcast_S_S1x200x2 main_cst_9
  let main_v88 : FVec F S1x200x2 .f32 := mulf main_v87 main_v86
  let main_v89 : FVec F S256x200x2 .f32 := broadcastInDim S256x200x2 ![0, 1, 2] bcast_S1x200x2_S256x200x2_0_1_2 main_v88
  let main_v90 : FVec F S256x200x2 .f32 := Host.divf main_v85 main_v89
  let main_v91 : FVec F S256x200x2 .f32 := Host.exp main_v90
  let main_v92 : FVec F S256x200x1 .f32 := (extractStridedSlice S256x200x1 ![0, 0, 0] · slices_S256x200x2_S256x200x1_0_0_0) main_v91
  let main_v93 : FVec F S256x200 .f32 := shapeCast S256x200 main_v92 shapeCasts_S256x200x1_S256x200
  let main_v94 : FVec F S256x200x1 .f32 := (extractStridedSlice S256x200x1 ![0, 0, 1] · slices_S256x200x2_S256x200x1_0_0_1) main_v91
  let main_v95 : FVec F S256x200 .f32 := shapeCast S256x200 main_v94 shapeCasts_S256x200x1_S256x200
  let main_v96 : FVec F S256x200 .f32 := mulf main_v93 main_v95
  let main_v97 : FVec F S64x1x2 .f32 := broadcastInDim S64x1x2 ![0, 2] bcast_S64x2_S64x1x2_0_2 main_arg3
  let main_v98 : FVec F S64x200x2 .f32 := broadcastInDim S64x200x2 ![0, 1, 2] bcast_S64x1x2_S64x200x2_0_1_2 main_v97
  let main_v99 : FVec F S64x200x2 .f32 := broadcastInDim S64x200x2 ![0, 1, 2] bcast_S1x200x2_S64x200x2_0_1_2 main_v17
  let main_v100 : FVec F S64x200x2 .f32 := subf main_v98 main_v99
  let main_cst_10 : FVec F S_ .f32 := constant S_ .f32 0x42800000#32
  let main_v101 : FVec F S64x200x2 .f32 := broadcastInDim S64x200x2 ![] bcast_S_S64x200x2 main_cst_10
  let main_v102 : FVec F S64x200x2 .f32 := Host.divf main_v100 main_v101
  let main_v103 : FVec F S64x200x2 .f32 := broadcastInDim S64x200x2 ![0, 1, 2] bcast_S1x200x2_S64x200x2_0_1_2 main_v25
  let main_v104 : FVec F S64x200x2 .f32 := subf main_v102 main_v103
  let main_v105 : FVec F S64x200x2 .f32 := mulf main_v104 main_v104
  let main_v106 : FVec F S64x200x2 .f32 := Host.negf main_v105
  fn_part5 (F := F) main_arg4 main_arg8 main_v17 main_v25 main_v33 main_v54 main_v75 main_v96 main_v106

def fn_part3 {F : FTy → Type} [FloatOps F] (main_arg2 : FVec F S256x2 .f32) (main_arg3 : FVec F S64x2 .f32) (main_arg4 : FVec F S16x2 .f32) (main_arg8 : IVec S200 32) (main_v17 : FVec F S1x200x2 .f32) (main_v25 : FVec F S1x200x2 .f32) (main_v33 : FVec F S1x200x2 .f32) (main_v54 : FVec F S4096x200 .f32) (main_v62 : FVec F S1024x200x2 .f32) : IVec S200 1 :=
  let main_v63 : FVec F S1024x200x2 .f32 := mulf main_v62 main_v62
  let main_v64 : FVec F S1024x200x2 .f32 := Host.negf main_v63
  let main_v65 : FVec F S1x200x2 .f32 := mulf main_v33 main_v33
  let main_cst_7 : FVec F S_ .f32 := constant S_ .f32 0x40000000#32
  let main_v66 : FVec F S1x200x2 .f32 := broadcastInDim S1x200x2 ![] bcast_S_S1x200x2 main_cst_7
  let main_v67 : FVec F S1x200x2 .f32 := mulf main_v66 main_v65
  let main_v68 : FVec F S1024x200x2 .f32 := broadcastInDim S1024x200x2 ![0, 1, 2] bcast_S1x200x2_S1024x200x2_0_1_2 main_v67
  let main_v69 : FVec F S1024x200x2 .f32 := Host.divf main_v64 main_v68
  let main_v70 : FVec F S1024x200x2 .f32 := Host.exp main_v69
  let main_v71 : FVec F S1024x200x1 .f32 := (extractStridedSlice S1024x200x1 ![0, 0, 0] · slices_S1024x200x2_S1024x200x1_0_0_0) main_v70
  let main_v72 : FVec F S1024x200 .f32 := shapeCast S1024x200 main_v71 shapeCasts_S1024x200x1_S1024x200
  let main_v73 : FVec F S1024x200x1 .f32 := (extractStridedSlice S1024x200x1 ![0, 0, 1] · slices_S1024x200x2_S1024x200x1_0_0_1) main_v70
  let main_v74 : FVec F S1024x200 .f32 := shapeCast S1024x200 main_v73 shapeCasts_S1024x200x1_S1024x200
  let main_v75 : FVec F S1024x200 .f32 := mulf main_v72 main_v74
  let main_v76 : FVec F S256x1x2 .f32 := broadcastInDim S256x1x2 ![0, 2] bcast_S256x2_S256x1x2_0_2 main_arg2
  let main_v77 : FVec F S256x200x2 .f32 := broadcastInDim S256x200x2 ![0, 1, 2] bcast_S256x1x2_S256x200x2_0_1_2 main_v76
  let main_v78 : FVec F S256x200x2 .f32 := broadcastInDim S256x200x2 ![0, 1, 2] bcast_S1x200x2_S256x200x2_0_1_2 main_v17
  let main_v79 : FVec F S256x200x2 .f32 := subf main_v77 main_v78
  let main_cst_8 : FVec F S_ .f32 := constant S_ .f32 0x42000000#32
  let main_v80 : FVec F S256x200x2 .f32 := broadcastInDim S256x200x2 ![] bcast_S_S256x200x2 main_cst_8
  let main_v81 : FVec F S256x200x2 .f32 := Host.divf main_v79 main_v80
  let main_v82 : FVec F S256x200x2 .f32 := broadcastInDim S256x200x2 ![0, 1, 2] bcast_S1x200x2_S256x200x2_0_1_2 main_v25
  let main_v83 : FVec F S256x200x2 .f32 := subf main_v81 main_v82
  let main_v84 : FVec F S256x200x2 .f32 := mulf main_v83 main_v83
  fn_part4 (F := F) main_arg3 main_arg4 main_arg8 main_v17 main_v25 main_v33 main_v54 main_v75 main_v84

def fn_part2 {F : FTy → Type} [FloatOps F] (main_arg1 : FVec F S1024x2 .f32) (main_arg2 : FVec F S256x2 .f32) (main_arg3 : FVec F S64x2 .f32) (main_arg4 : FVec F S16x2 .f32) (main_arg8 : IVec S200 32) (main_v17 : FVec F S1x200x2 .f32) (main_v25 : FVec F S1x200x2 .f32) (main_v33 : FVec F S1x200x2 .f32) (main_v39 : FVec F S4096x200x2 .f32) (main_v40 : FVec F S4096x200x2 .f32) : IVec S200 1 :=
  let main_v41 : FVec F S4096x200x2 .f32 := subf main_v39 main_v40
  let main_v42 : FVec F S4096x200x2 .f32 := mulf main_v41 main_v41
  let main_v43 : FVec F S4096x200x2 .f32 := Host.negf main_v42
  let main_v44 : FVec F S1x200x2 .f32 := mulf main_v33 main_v33
  let main_cst_5 : FVec F S_ .f32 := constant S_ .f32 0x40000000#32
  let main_v45 : FVec F S1x200x2 .f32 := broadcastInDim S1x200x2 ![] bcast_S_S1x200x2 main_cst_5
  let main_v46 : FVec F S1x200x2 .f32 := mulf main_v45 main_v44
  let main_v47 : FVec F S4096x200x2 .f32 := broadcastInDim S4096x200x2 ![0, 1, 2] bcast_S1x200x2_S4096x200x2_0_1_2 main_v46
  let main_v48 : FVec F S4096x200x2 .f32 := Host.divf main_v43 main_v47
  let main_v49 : FVec F S4096x200x2 .f32 := Host.exp main_v48
  let main_v50 : FVec F S4096x200x1 .f32 := (extractStridedSlice S4096x200x1 ![0, 0, 0] · slices_S4096x200x2_S4096x200x1_0_0_0) main_v49
  let main_v51 : FVec F S4096x200 .f32 := shapeCast S4096x200 main_v50 shapeCasts_S4096x200x1_S4096x200
  let main_v52 : FVec F S4096x200x1 .f32 := (extractStridedSlice S4096x200x1 ![0, 0, 1] · slices_S4096x200x2_S4096x200x1_0_0_1) main_v49
  let main_v53 : FVec F S4096x200 .f32 := shapeCast S4096x200 main_v52 shapeCasts_S4096x200x1_S4096x200
  let main_v54 : FVec F S4096x200 .f32 := mulf main_v51 main_v53
  let main_v55 : FVec F S1024x1x2 .f32 := broadcastInDim S1024x1x2 ![0, 2] bcast_S1024x2_S1024x1x2_0_2 main_arg1
  let main_v56 : FVec F S1024x200x2 .f32 := broadcastInDim S1024x200x2 ![0, 1, 2] bcast_S1024x1x2_S1024x200x2_0_1_2 main_v55
  let main_v57 : FVec F S1024x200x2 .f32 := broadcastInDim S1024x200x2 ![0, 1, 2] bcast_S1x200x2_S1024x200x2_0_1_2 main_v17
  let main_v58 : FVec F S1024x200x2 .f32 := subf main_v56 main_v57
  let main_cst_6 : FVec F S_ .f32 := constant S_ .f32 0x41800000#32
  let main_v59 : FVec F S1024x200x2 .f32 := broadcastInDim S1024x200x2 ![] bcast_S_S1024x200x2 main_cst_6
  let main_v60 : FVec F S1024x200x2 .f32 := Host.divf main_v58 main_v59
  let main_v61 : FVec F S1024x200x2 .f32 := broadcastInDim S1024x200x2 ![0, 1, 2] bcast_S1x200x2_S1024x200x2_0_1_2 main_v25
  let main_v62 : FVec F S1024x200x2 .f32 := subf main_v60 main_v61
  fn_part3 (F := F) main_arg2 main_arg3 main_arg4 main_arg8 main_v17 main_v25 main_v33 main_v54 main_v62

def fn_part1 {F : FTy → Type} [FloatOps F] (main_arg0 : FVec F S4096x2 .f32) (main_arg1 : FVec F S1024x2 .f32) (main_arg2 : FVec F S256x2 .f32) (main_arg3 : FVec F S64x2 .f32) (main_arg4 : FVec F S16x2 .f32) (main_arg6 : FVec F S80x2 .f32) (main_arg7 : FVec F S80x2 .f32) (main_arg8 : IVec S200 32) (main_v17 : FVec F S1x200x2 .f32) (main_v19 : IVec S200 1) (main_c_1 : IVec S_ 32) : IVec S200 1 :=
  let main_v20 : IVec S200 32 := broadcastInDim S200 ![] bcast_S_S200 main_c_1
  let main_v21 : IVec S200 32 := addi main_arg8 main_v20
  let main_v22 : IVec S200 32 := select main_v19 main_v21 main_arg8
  let main_v23 : IVec S200x1 32 := broadcastInDim S200x1 ![0] bcast_S200_S200x1_0 main_v22
  let main_v24 : FVec F S200x2 .f32 := (fun x i => Host.gather gather_S80x2_S200x1_S200x2_1_0_n_n_0_1_12 x i) main_arg6 main_v23
  let main_v25 : FVec F S1x200x2 .f32 := broadcastInDim S1x200x2 ![1, 2] bcast_S200x2_S1x200x2_1_2 main_v24
  let main_c_2 : IVec S_ 32 := constantI S_ 32 0#32
  let main_v26 : IVec S200 32 := broadcastInDim S200 ![] bcast_S_S200 main_c_2
  let main_v27 : IVec S200 1 := cmpi .slt main_arg8 main_v26
  let main_c_3 : IVec S_ 32 := constantI S_ 32 80#32
  let main_v28 : IVec S200 32 := broadcastInDim S200 ![] bcast_S_S200 main_c_3
  let main_v29 : IVec S200 32 := addi main_arg8 main_v28
  let main_v30 : IVec S200 32 := select main_v27 main_v29 main_arg8
  let main_v31 : IVec S200x1 32 := broadcastInDim S200x1 ![0] bcast_S200_S200x1_0 main_v30
  let main_v32 : FVec F S200x2 .f32 := (fun x i => Host.gather gather_S80x2_S200x1_S200x2_1_0_n_n_0_1_12 x i) main_arg7 main_v31
  let main_v33 : FVec F S1x200x2 .f32 := broadcastInDim S1x200x2 ![1, 2] bcast_S200x2_S1x200x2_1_2 main_v32
  let main_v34 : FVec F S4096x1x2 .f32 := broadcastInDim S4096x1x2 ![0, 2] bcast_S4096x2_S4096x1x2_0_2 main_arg0
  let main_v35 : FVec F S4096x200x2 .f32 := broadcastInDim S4096x200x2 ![0, 1, 2] bcast_S4096x1x2_S4096x200x2_0_1_2 main_v34
  let main_v36 : FVec F S4096x200x2 .f32 := broadcastInDim S4096x200x2 ![0, 1, 2] bcast_S1x200x2_S4096x200x2_0_1_2 main_v17
  let main_v37 : FVec F S4096x200x2 .f32 := subf main_v35 main_v36
  let main_cst_4 : FVec F S_ .f32 := constant S_ .f32 0x41000000#32
  let main_v38 : FVec F S4096x200x2 .f32 := broadcastInDim S4096x200x2 ![] bcast_S_S4096x200x2 main_cst_4
  let main_v39 : FVec F S4096x200x2 .f32 := Host.divf main_v37 main_v38
  let main_v40 : FVec F S4096x200x2 .f32 := broadcastInDim S4096x200x2 ![0, 1, 2] bcast_S1x200x2_S4096x200x2_0_1_2 main_v25
  fn_part2 (F := F) main_arg1 main_arg2 main_arg3 main_arg4 main_arg8 main_v17 main_v25 main_v33 main_v39 main_v40

def fn {F : FTy → Type} [FloatOps F] (main_arg0 : FVec F S4096x2 .f32) (main_arg1 : FVec F S1024x2 .f32) (main_arg2 : FVec F S256x2 .f32) (main_arg3 : FVec F S64x2 .f32) (main_arg4 : FVec F S16x2 .f32) (main_arg5 : FVec F S200x4 .f32) (main_arg6 : FVec F S80x2 .f32) (main_arg7 : FVec F S80x2 .f32) (main_arg8 : IVec S200 32) (main_arg9 : IVec S5456x200 1) : IVec S200 1 :=
  let main_v0 : FVec F S200x1 .f32 := (extractStridedSlice S200x1 ![0, 0] · slices_S200x4_S200x1_0_0) main_arg5
  let main_v1 : FVec F S200 .f32 := shapeCast S200 main_v0 shapeCasts_S200x1_S200
  let main_v2 : FVec F S200x1 .f32 := (extractStridedSlice S200x1 ![0, 2] · slices_S200x4_S200x1_0_2) main_arg5
  let main_v3 : FVec F S200 .f32 := shapeCast S200 main_v2 shapeCasts_S200x1_S200
  let main_v4 : FVec F S200 .f32 := addf main_v1 main_v3
  let main_cst : FVec F S_ .f32 := constant S_ .f32 0x40000000#32
  let main_v5 : FVec F S200 .f32 := broadcastInDim S200 ![] bcast_S_S200 main_cst
  let main_v6 : FVec F S200 .f32 := Host.divf main_v4 main_v5
  let main_v7 : FVec F S200x1 .f32 := (extractStridedSlice S200x1 ![0, 1] · slices_S200x4_S200x1_0_1) main_arg5
  let main_v8 : FVec F S200 .f32 := shapeCast S200 main_v7 shapeCasts_S200x1_S200
  let main_v9 : FVec F S200x1 .f32 := (extractStridedSlice S200x1 ![0, 3] · slices_S200x4_S200x1_0_3) main_arg5
  let main_v10 : FVec F S200 .f32 := shapeCast S200 main_v9 shapeCasts_S200x1_S200
  let main_v11 : FVec F S200 .f32 := addf main_v8 main_v10
  let main_cst_0 : FVec F S_ .f32 := constant S_ .f32 0x40000000#32
  let main_v12 : FVec F S200 .f32 := broadcastInDim S200 ![] bcast_S_S200 main_cst_0
  let main_v13 : FVec F S200 .f32 := Host.divf main_v11 main_v12
  let main_v14 : FVec F S200x1 .f32 := broadcastInDim S200x1 ![0] bcast_S200_S200x1_0 main_v6
  let main_v15 : FVec F S200x1 .f32 := broadcastInDim S200x1 ![0] bcast_S200_S200x1_0 main_v13
  let main_v16 : FVec F S200x2 .f32 := (fun a b => concatenate S200x2 1 [⟨S200x1, a⟩, ⟨S200x1, b⟩] concatenates_S200x1_S200x1_S200x2_d1) main_v14 main_v15
  let main_v17 : FVec F S1x200x2 .f32 := broadcastInDim S1x200x2 ![1, 2] bcast_S200x2_S1x200x2_1_2 main_v16
  let main_c : IVec S_ 32 := constantI S_ 32 0#32
  let main_v18 : IVec S200 32 := broadcastInDim S200 ![] bcast_S_S200 main_c
  let main_v19 : IVec S200 1 := cmpi .slt main_arg8 main_v18
  let main_c_1 : IVec S_ 32 := constantI S_ 32 80#32
  fn_part1 (F := F) main_arg0 main_arg1 main_arg2 main_arg3 main_arg4 main_arg6 main_arg7 main_arg8 main_v17 main_v19 main_c_1
-- ==== Kernel.lean ====
abbrev S4096x2 : Shape := ⟨2, ![4096, 2]⟩
abbrev S1024x2 : Shape := ⟨2, ![1024, 2]⟩
abbrev S256x2 : Shape := ⟨2, ![256, 2]⟩
abbrev S64x2 : Shape := ⟨2, ![64, 2]⟩
abbrev S16x2 : Shape := ⟨2, ![16, 2]⟩
abbrev S200x4 : Shape := ⟨2, ![200, 4]⟩
abbrev S80x2 : Shape := ⟨2, ![80, 2]⟩
abbrev S200 : Shape := ⟨1, ![200]⟩
abbrev S5456x200 : Shape := ⟨2, ![5456, 200]⟩
abbrev S5456x2 : Shape := ⟨2, ![5456, 2]⟩
abbrev S4x200 : Shape := ⟨2, ![4, 200]⟩
abbrev S2x80 : Shape := ⟨2, ![2, 80]⟩
abbrev S4x80 : Shape := ⟨2, ![4, 80]⟩
abbrev S1x200 : Shape := ⟨2, ![1, 200]⟩
abbrev S_ : Shape := ⟨0, ![]⟩
abbrev S4x128 : Shape := ⟨2, ![4, 128]⟩
abbrev S1x128 : Shape := ⟨2, ![1, 128]⟩
abbrev S5456x128 : Shape := ⟨2, ![5456, 128]⟩
abbrev S80x128 : Shape := ⟨2, ![80, 128]⟩
abbrev S4096x1 : Shape := ⟨2, ![4096, 1]⟩
abbrev S4096x128 : Shape := ⟨2, ![4096, 128]⟩
abbrev S1024x1 : Shape := ⟨2, ![1024, 1]⟩
abbrev S1024x128 : Shape := ⟨2, ![1024, 128]⟩
abbrev S256x1 : Shape := ⟨2, ![256, 1]⟩
abbrev S256x128 : Shape := ⟨2, ![256, 128]⟩
abbrev S64x1 : Shape := ⟨2, ![64, 1]⟩
abbrev S64x128 : Shape := ⟨2, ![64, 128]⟩
abbrev S16x1 : Shape := ⟨2, ![16, 1]⟩
abbrev S16x128 : Shape := ⟨2, ![16, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩

abbrev nBuf : Space → Nat
  | .hbm => 23
  | .vmem => 12
  | .smem => 0
  | _ => 0

abbrev bufTy : (tb : Table) → Fin (tcTables nBuf tb) → BufTy
  | .hbm, ⟨0, _⟩ => ⟨S4096x2, .f32⟩
  | .hbm, ⟨1, _⟩ => ⟨S1024x2, .f32⟩
  | .hbm, ⟨2, _⟩ => ⟨S256x2, .f32⟩
  | .hbm, ⟨3, _⟩ => ⟨S64x2, .f32⟩
  | .hbm, ⟨4, _⟩ => ⟨S16x2, .f32⟩
  | .hbm, ⟨5, _⟩ => ⟨S200x4, .f32⟩
  | .hbm, ⟨6, _⟩ => ⟨S80x2, .f32⟩
  | .hbm, ⟨7, _⟩ => ⟨S80x2, .f32⟩
  | .hbm, ⟨8, _⟩ => ⟨S200, .i32⟩
  | .hbm, ⟨9, _⟩ => ⟨S5456x200, .i1⟩
  | .hbm, ⟨10, _⟩ => ⟨S5456x2, .f32⟩
  | .hbm, ⟨11, _⟩ => ⟨S4x200, .f32⟩
  | .hbm, ⟨12, _⟩ => ⟨S2x80, .f32⟩
  | .hbm, ⟨13, _⟩ => ⟨S2x80, .f32⟩
  | .hbm, ⟨14, _⟩ => ⟨S4x80, .f32⟩
  | .hbm, ⟨15, _⟩ => ⟨S1x200, .i32⟩
  | .hbm, ⟨16, _⟩ => ⟨S5456x200, .i32⟩
  | .hbm, ⟨17, _⟩ => ⟨S5456x200, .f32⟩
  | .hbm, ⟨18, _⟩ => ⟨S5456x200, .i32⟩
  | .hbm, ⟨19, _⟩ => ⟨S_, .i32⟩
  | .hbm, ⟨20, _⟩ => ⟨S5456x200, .i32⟩
  | .hbm, ⟨21, _⟩ => ⟨S5456x200, .i1⟩
  | .hbm, ⟨22, _⟩ => ⟨S5456x200, .i1⟩
  | .local _ .vmem, ⟨0, _⟩ => ⟨S5456x2, .f32⟩
  | .local _ .vmem, ⟨1, _⟩ => ⟨S4x128, .f32⟩
  | .local _ .vmem, ⟨2, _⟩ => ⟨S4x128, .f32⟩
  | .local _ .vmem, ⟨3, _⟩ => ⟨S4x80, .f32⟩
  | .local _ .vmem, ⟨4, _⟩ => ⟨S1x128, .i32⟩
  | .local _ .vmem, ⟨5, _⟩ => ⟨S1x128, .i32⟩
  | .local _ .vmem, ⟨6, _⟩ => ⟨S5456x128, .i32⟩
  | .local _ .vmem, ⟨7, _⟩ => ⟨S5456x128, .i32⟩
  | .local _ .vmem, ⟨8, _⟩ => ⟨S5456x128, .f32⟩
  | .local _ .vmem, ⟨9, _⟩ => ⟨S5456x128, .f32⟩
  | .local _ .vmem, ⟨10, _⟩ => ⟨S5456x128, .i32⟩
  | .local _ .vmem, ⟨11, _⟩ => ⟨S5456x128, .i32⟩
  | _, _ => ⟨S4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_v0_0 : Ref sig .tc := ⟨.hbm, 17, rfl⟩
abbrev main_call0_v7_1 : Ref sig .tc := ⟨.hbm, 18, rfl⟩
abbrev main_call0_c : Ref sig .tc := ⟨.hbm, 19, rfl⟩
abbrev main_call0_v8 : Ref sig .tc := ⟨.hbm, 20, rfl⟩
abbrev main_call0_v9 : Ref sig .tc := ⟨.hbm, 21, rfl⟩
abbrev main_v0_1 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S5456x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5456x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5456x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5456x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4096x2 : Shape := ⟨2, ![4096, 2]⟩
abbrev S1024x2 : Shape := ⟨2, ![1024, 2]⟩
abbrev S256x2 : Shape := ⟨2, ![256, 2]⟩
abbrev S64x2 : Shape := ⟨2, ![64, 2]⟩
abbrev S16x2 : Shape := ⟨2, ![16, 2]⟩
abbrev S200x4 : Shape := ⟨2, ![200, 4]⟩
abbrev S80x2 : Shape := ⟨2, ![80, 2]⟩
abbrev S200 : Shape := ⟨1, ![200]⟩
abbrev S5456x200 : Shape := ⟨2, ![5456, 200]⟩
abbrev S200x1 : Shape := ⟨2, ![200, 1]⟩
abbrev S_ : Shape := ⟨0, ![]⟩
abbrev S200x2 : Shape := ⟨2, ![200, 2]⟩
abbrev S1x200x2 : Shape := ⟨3, ![1, 200, 2]⟩
abbrev S4096x1x2 : Shape := ⟨3, ![4096, 1, 2]⟩
abbrev S4096x200x2 : Shape := ⟨3, ![4096, 200, 2]⟩
abbrev S4096x200x1 : Shape := ⟨3, ![4096, 200, 1]⟩
abbrev S4096x200 : Shape := ⟨2, ![4096, 200]⟩
abbrev S1024x1x2 : Shape := ⟨3, ![1024, 1, 2]⟩
abbrev S1024x200x2 : Shape := ⟨3, ![1024, 200, 2]⟩
abbrev S1024x200x1 : Shape := ⟨3, ![1024, 200, 1]⟩
abbrev S1024x200 : Shape := ⟨2, ![1024, 200]⟩
abbrev S256x1x2 : Shape := ⟨3, ![256, 1, 2]⟩
abbrev S256x200x2 : Shape := ⟨3, ![256, 200, 2]⟩
abbrev S256x200x1 : Shape := ⟨3, ![256, 200, 1]⟩
abbrev S256x200 : Shape := ⟨2, ![256, 200]⟩
abbrev S64x1x2 : Shape := ⟨3, ![64, 1, 2]⟩
abbrev S64x200x2 : Shape := ⟨3, ![64, 200, 2]⟩
abbrev S64x200x1 : Shape := ⟨3, ![64, 200, 1]⟩
abbrev S64x200 : Shape := ⟨2, ![64, 200]⟩
abbrev S16x1x2 : Shape := ⟨3, ![16, 1, 2]⟩
abbrev S16x200x2 : Shape := ⟨3, ![16, 200, 2]⟩
abbrev S16x200x1 : Shape := ⟨3, ![16, 200, 1]⟩
abbrev S16x200 : Shape := ⟨2, ![16, 200]⟩
abbrev S200x5456 : Shape := ⟨2, ![200, 5456]⟩
abbrev S200x9 : Shape := ⟨2, ![200, 9]⟩
abbrev S200x9x1 : Shape := ⟨3, ![200, 9, 1]⟩
abbrev S200x9x2 : Shape := ⟨3, ![200, 9, 2]⟩
abbrev S1x200 : Shape := ⟨2, ![1, 200]⟩

abbrev nBuf : Space → Nat
  | .hbm => 208
  | .vmem => 0
  | .smem => 0
  | _ => 0

abbrev hbmTy0_0 (i : Nat) : BufTy := match i % 128 with
  | 0 => ⟨S4096x2, .f32⟩
  | 1 => ⟨S1024x2, .f32⟩
  | 2 => ⟨S256x2, .f32⟩
  | 3 => ⟨S64x2, .f32⟩
  | 4 => ⟨S16x2, .f32⟩
  | 5 => ⟨S200x4, .f32⟩
  | 6 => ⟨S80x2, .f32⟩
  | 7 => ⟨S80x2, .f32⟩
  | 8 => ⟨S200, .i32⟩
  | 9 => ⟨S5456x200, .i1⟩
  | 10 => ⟨S200x1, .f32⟩
  | 11 => ⟨S200, .f32⟩
  | 12 => ⟨S200x1, .f32⟩
  | 13 => ⟨S200, .f32⟩
  | 14 => ⟨S200, .f32⟩
  | 15 => ⟨S_, .f32⟩
  | 16 => ⟨S200, .f32⟩
  | 17 => ⟨S200, .f32⟩
  | 18 => ⟨S200x1, .f32⟩
  | 19 => ⟨S200, .f32⟩
  | 20 => ⟨S200x1, .f32⟩
  | 21 => ⟨S200, .f32⟩
  | 22 => ⟨S200, .f32⟩
  | 23 => ⟨S_, .f32⟩
  | 24 => ⟨S200, .f32⟩
  | 25 => ⟨S200, .f32⟩
  | 26 => ⟨S200x1, .f32⟩
  | 27 => ⟨S200x1, .f32⟩
  | 28 => ⟨S200x2, .f32⟩
  | 29 => ⟨S1x200x2, .f32⟩
  | 30 => ⟨S_, .i32⟩
  | 31 => ⟨S200, .i32⟩
  | 32 => ⟨S200, .i1⟩
  | 33 => ⟨S_, .i32⟩
  | 34 => ⟨S200, .i32⟩
  | 35 => ⟨S200, .i32⟩
  | 36 => ⟨S200, .i32⟩
  | 37 => ⟨S200x1, .i32⟩
  | 38 => ⟨S200x2, .f32⟩
  | 39 => ⟨S1x200x2, .f32⟩
  | 40 => ⟨S_, .i32⟩
  | 41 => ⟨S200, .i32⟩
  | 42 => ⟨S200, .i1⟩
  | 43 => ⟨S_, .i32⟩
  | 44 => ⟨S200, .i32⟩
  | 45 => ⟨S200, .i32⟩
  | 46 => ⟨S200, .i32⟩
  | 47 => ⟨S200x1, .i32⟩
  | 48 => ⟨S200x2, .f32⟩
  | 49 => ⟨S1x200x2, .f32⟩
  | 50 => ⟨S4096x1x2, .f32⟩
  | 51 => ⟨S4096x200x2, .f32⟩
  | 52 => ⟨S4096x200x2, .f32⟩
  | 53 => ⟨S4096x200x2, .f32⟩
  | 54 => ⟨S_, .f32⟩
  | 55 => ⟨S4096x200x2, .f32⟩
  | 56 => ⟨S4096x200x2, .f32⟩
  | 57 => ⟨S4096x200x2, .f32⟩
  | 58 => ⟨S4096x200x2, .f32⟩
  | 59 => ⟨S4096x200x2, .f32⟩
  | 60 => ⟨S4096x200x2, .f32⟩
  | 61 => ⟨S1x200x2, .f32⟩
  | 62 => ⟨S_, .f32⟩
  | 63 => ⟨S1x200x2, .f32⟩
  | 64 => ⟨S1x200x2, .f32⟩
  | 65 => ⟨S4096x200x2, .f32⟩
  | 66 => ⟨S4096x200x2, .f32⟩
  | 67 => ⟨S4096x200x2, .f32⟩
  | 68 => ⟨S4096x200x1, .f32⟩
  | 69 => ⟨S4096x200, .f32⟩
  | 70 => ⟨S4096x200x1, .f32⟩
  | 71 => ⟨S4096x200, .f32⟩
  | 72 => ⟨S4096x200, .f32⟩
  | 73 => ⟨S1024x1x2, .f32⟩
  | 74 => ⟨S1024x200x2, .f32⟩
  | 75 => ⟨S1024x200x2, .f32⟩
  | 76 => ⟨S1024x200x2, .f32⟩
  | 77 => ⟨S_, .f32⟩
  | 78 => ⟨S1024x200x2, .f32⟩
  | 79 => ⟨S1024x200x2, .f32⟩
  | 80 => ⟨S1024x200x2, .f32⟩
  | 81 => ⟨S1024x200x2, .f32⟩
  | 82 => ⟨S1024x200x2, .f32⟩
  | 83 => ⟨S1024x200x2, .f32⟩
  | 84 => ⟨S1x200x2, .f32⟩
  | 85 => ⟨S_, .f32⟩
  | 86 => ⟨S1x200x2, .f32⟩
  | 87 => ⟨S1x200x2, .f32⟩
  | 88 => ⟨S1024x200x2, .f32⟩
  | 89 => ⟨S1024x200x2, .f32⟩
  | 90 => ⟨S1024x200x2, .f32⟩
  | 91 => ⟨S1024x200x1, .f32⟩
  | 92 => ⟨S1024x200, .f32⟩
  | 93 => ⟨S1024x200x1, .f32⟩
  | 94 => ⟨S1024x200, .f32⟩
  | 95 => ⟨S1024x200, .f32⟩
  | 96 => ⟨S256x1x2, .f32⟩
  | 97 => ⟨S256x200x2, .f32⟩
  | 98 => ⟨S256x200x2, .f32⟩
  | 99 => ⟨S256x200x2, .f32⟩
  | 100 => ⟨S_, .f32⟩
  | 101 => ⟨S256x200x2, .f32⟩
  | 102 => ⟨S256x200x2, .f32⟩
  | 103 => ⟨S256x200x2, .f32⟩
  | 104 => ⟨S256x200x2, .f32⟩
  | 105 => ⟨S256x200x2, .f32⟩
  | 106 => ⟨S256x200x2, .f32⟩
  | 107 => ⟨S1x200x2, .f32⟩
  | 108 => ⟨S_, .f32⟩
  | 109 => ⟨S1x200x2, .f32⟩
  | 110 => ⟨S1x200x2, .f32⟩
  | 111 => ⟨S256x200x2, .f32⟩
  | 112 => ⟨S256x200x2, .f32⟩
  | 113 => ⟨S256x200x2, .f32⟩
  | 114 => ⟨S256x200x1, .f32⟩
  | 115 => ⟨S256x200, .f32⟩
  | 116 => ⟨S256x200x1, .f32⟩
  | 117 => ⟨S256x200, .f32⟩
  | 118 => ⟨S256x200, .f32⟩
  | 119 => ⟨S64x1x2, .f32⟩
  | 120 => ⟨S64x200x2, .f32⟩
  | 121 => ⟨S64x200x2, .f32⟩
  | 122 => ⟨S64x200x2, .f32⟩
  | 123 => ⟨S_, .f32⟩
  | 124 => ⟨S64x200x2, .f32⟩
  | 125 => ⟨S64x200x2, .f32⟩
  | 126 => ⟨S64x200x2, .f32⟩
  | 127 => ⟨S64x200x2, .f32⟩
  | _ => ⟨S4096x2, .f32⟩

abbrev hbmTy0_1 (i : Nat) : BufTy := match i % 128 with
  | 0 => ⟨S64x200x2, .f32⟩
  | 1 => ⟨S64x200x2, .f32⟩
  | 2 => ⟨S1x200x2, .f32⟩
  | 3 => ⟨S_, .f32⟩
  | 4 => ⟨S1x200x2, .f32⟩
  | 5 => ⟨S1x200x2, .f32⟩
  | 6 => ⟨S64x200x2, .f32⟩
  | 7 => ⟨S64x200x2, .f32⟩
  | 8 => ⟨S64x200x2, .f32⟩
  | 9 => ⟨S64x200x1, .f32⟩
  | 10 => ⟨S64x200, .f32⟩
  | 11 => ⟨S64x200x1, .f32⟩
  | 12 => ⟨S64x200, .f32⟩
  | 13 => ⟨S64x200, .f32⟩
  | 14 => ⟨S16x1x2, .f32⟩
  | 15 => ⟨S16x200x2, .f32⟩
  | 16 => ⟨S16x200x2, .f32⟩
  | 17 => ⟨S16x200x2, .f32⟩
  | 18 => ⟨S_, .f32⟩
  | 19 => ⟨S16x200x2, .f32⟩
  | 20 => ⟨S16x200x2, .f32⟩
  | 21 => ⟨S16x200x2, .f32⟩
  | 22 => ⟨S16x200x2, .f32⟩
  | 23 => ⟨S16x200x2, .f32⟩
  | 24 => ⟨S16x200x2, .f32⟩
  | 25 => ⟨S1x200x2, .f32⟩
  | 26 => ⟨S_, .f32⟩
  | 27 => ⟨S1x200x2, .f32⟩
  | 28 => ⟨S1x200x2, .f32⟩
  | 29 => ⟨S16x200x2, .f32⟩
  | 30 => ⟨S16x200x2, .f32⟩
  | 31 => ⟨S16x200x2, .f32⟩
  | 32 => ⟨S16x200x1, .f32⟩
  | 33 => ⟨S16x200, .f32⟩
  | 34 => ⟨S16x200x1, .f32⟩
  | 35 => ⟨S16x200, .f32⟩
  | 36 => ⟨S16x200, .f32⟩
  | 37 => ⟨S5456x200, .f32⟩
  | 38 => ⟨S5456x200, .i32⟩
  | 39 => ⟨S_, .i32⟩
  | 40 => ⟨S200, .i32⟩
  | 41 => ⟨S_, .i32⟩
  | 42 => ⟨S200, .i32⟩
  | 43 => ⟨S200, .i1⟩
  | 44 => ⟨S200x5456, .f32⟩
  | 45 => ⟨S200x9, .f32⟩
  | 46 => ⟨S200x9, .i32⟩
  | 47 => ⟨S_, .i1⟩
  | 48 => ⟨S200x5456, .i1⟩
  | 49 => ⟨S200, .i32⟩
  | 50 => ⟨S200x1, .i32⟩
  | 51 => ⟨S_, .i32⟩
  | 52 => ⟨S200x1, .i32⟩
  | 53 => ⟨S200x1, .i1⟩
  | 54 => ⟨S_, .i32⟩
  | 55 => ⟨S200x1, .i32⟩
  | 56 => ⟨S200x1, .i32⟩
  | 57 => ⟨S200x1, .i32⟩
  | 58 => ⟨S_, .i32⟩
  | 59 => ⟨S200x9, .i32⟩
  | 60 => ⟨S200x9, .i1⟩
  | 61 => ⟨S_, .i32⟩
  | 62 => ⟨S200x9, .i32⟩
  | 63 => ⟨S200x9, .i32⟩
  | 64 => ⟨S200x9, .i32⟩
  | 65 => ⟨S200x9, .i32⟩
  | 66 => ⟨S200x9x1, .i32⟩
  | 67 => ⟨S200x9x1, .i32⟩
  | 68 => ⟨S200x9x2, .i32⟩
  | 69 => ⟨S_, .i1⟩
  | 70 => ⟨S200x9, .i1⟩
  | 71 => ⟨S200x5456, .i1⟩
  | 72 => ⟨S5456x200, .i1⟩
  | 73 => ⟨S1x200, .i1⟩
  | 74 => ⟨S5456x200, .i1⟩
  | 75 => ⟨S5456x200, .i1⟩
  | 76 => ⟨S_, .f32⟩
  | 77 => ⟨S_, .f32⟩
  | 78 => ⟨S5456x200, .f32⟩
  | 79 => ⟨S5456x200, .f32⟩
  | _ => ⟨S4096x2, .f32⟩

abbrev hbmTy (i : Nat) : BufTy := match i / 128 with
  | 0 => hbmTy0_0 i
  | 1 => hbmTy0_1 i
  | _ => ⟨S4096x2, .f32⟩

abbrev bufTy : (tb : Table) → Fin (tcTables nBuf tb) → BufTy
  | .hbm, ⟨i, _⟩ => hbmTy i
  | _, _ => ⟨S4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_2 : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_6 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_7 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_8 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_9 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_cst_10 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_cst_11 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_cst_12 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_cst_13 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_c_14 : Ref sig .tc := ⟨.hbm, 167, rfl⟩
abbrev main_v141 : Ref sig .tc := ⟨.hbm, 168, rfl⟩
abbrev main_c_15 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_values : Ref sig .tc := ⟨.hbm, 173, rfl⟩
abbrev main_indices : Ref sig .tc := ⟨.hbm, 174, rfl⟩
abbrev main_c_16 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_c_17 : Ref sig .tc := ⟨.hbm, 179, rfl⟩
abbrev main_v148 : Ref sig .tc := ⟨.hbm, 180, rfl⟩
abbrev main_v149 : Ref sig .tc := ⟨.hbm, 181, rfl⟩
abbrev main_c_18 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_c_19 : Ref sig .tc := ⟨.hbm, 186, rfl⟩
abbrev main_v153 : Ref sig .tc := ⟨.hbm, 187, rfl⟩
abbrev main_v154 : Ref sig .tc := ⟨.hbm, 188, rfl⟩
abbrev main_c_20 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_c_21 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_call0_v0 : Ref sig .tc := ⟨.hbm, 202, rfl⟩
abbrev main_v166 : Ref sig .tc := ⟨.hbm, 203, rfl⟩
abbrev main_cst_22 : Ref sig .tc := ⟨.hbm, 204, rfl⟩
abbrev main_call1_v0 : Ref sig .tc := ⟨.hbm, 205, rfl⟩
abbrev main_call1_v1 : Ref sig .tc := ⟨.hbm, 206, rfl⟩
abbrev main_v167 : Ref sig .tc := ⟨.hbm, 207, rfl⟩

abbrev nD : Nat := 1
abbrev τ : Topo := Topo.v7x

variable {F : FTy → Type} [FloatOps F]
-- ==== Proof.Body.lean ====
/-
  What the kernel body does to its staging buffers, at any float values: the five input buffers keep what they hold, and the
  two output buffers end at `outW` and `outM`, functions of the inputs' contents and the grid point.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.FrameSuffix
public import Idealize.ShloMosaic.Lib.VecWindow
public import Idealize.ShloMosaic.Lib.Ring
public import Idealize.ShloMosaic.Lib.Tactic
public import Idealize.ShloMosaic.Lib.Claim

@[expose] public section

set_option maxRecDepth 16384

noncomputable section

namespace Cert.Assign

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The weights of one block of columns: from the points, the block's boxes, the table of means and sigmas and the block's
    labels, the five levels one under the other. -/
def blockW (X0 : Vec F S5456x2 .f32) (X1 : Vec F S4x128 .f32) (X2 : Vec F S4x80 .f32) (X3 : Vec F S1x128 .i32) : FVec F S5456x128 .f32 :=
  k0_pay26 (k0_pay11 X1) (k0_pay12 X1) (k0_pay14 X3 X2) (k0_pay15 X3 X2) (k0_pay16 X3 X2) (k0_pay17 X3 X2)
    (k0_pay20 (k0_pay11 X1) (k0_pay12 X1) (k0_pay14 X3 X2) (k0_pay15 X3 X2) (k0_pay16 X3 X2) (k0_pay17 X3 X2)
      (k0_pay18 (View.ld X0 (Rect.unit (s := S5456x2) ![0, 0] S4096x2.size inb_S5456x2_S4096x2_0_0)))
      (k0_pay19 (View.ld X0 (Rect.unit (s := S5456x2) ![0, 0] S4096x2.size inb_S5456x2_S4096x2_0_0))))
    (k0_pay21 (k0_pay11 X1) (k0_pay12 X1) (k0_pay14 X3 X2) (k0_pay15 X3 X2) (k0_pay16 X3 X2) (k0_pay17 X3 X2)
      (View.ld X0 (Rect.unit (s := S5456x2) ![4096, 0] S1024x2.size inb_S5456x2_S1024x2_4096_0)))
    (k0_pay22 (k0_pay11 X1) (k0_pay12 X1) (k0_pay14 X3 X2) (k0_pay15 X3 X2) (k0_pay16 X3 X2) (k0_pay17 X3 X2)
      (View.ld X0 (Rect.unit (s := S5456x2) ![5120, 0] S256x2.size inb_S5456x2_S256x2_5120_0)))
    (k0_pay24 (k0_pay11 X1) (k0_pay14 X3 X2) (View.ld X0 (Rect.unit (s := S5456x2) ![5376, 0] S64x2.size inb_S5456x2_S64x2_5376_0)))
    (k0_pay25 (k0_pay12 X1) (k0_pay15 X3 X2) (View.ld X0 (Rect.unit (s := S5456x2) ![5376, 0] S64x2.size inb_S5456x2_S64x2_5376_0)))
    (View.ld X0 (Rect.unit (s := S5456x2) ![5440, 0] S16x2.size inb_S5456x2_S16x2_5440_0))

/-- The lane numbers of a block. -/
abbrev laneIota : IVec S1x128 32 := iota .tc S1x128 32 [1] iota_S1x128_d1_w32
/-- The row numbers of a block. -/
abbrev rowIota : IVec S5456x128 32 := iota .tc S5456x128 32 [0] iota_S5456x128_d0_w32
/-- The number of the first column of the block at grid point `i`, in every lane. -/
abbrev colBase (i : grid0.Coords) : IVec S1x128 32 := k0_pay29 (BitVec.ofNat 32 (i 0).val)

/-- The body's branch: does some true column of the block have no point inside? -/
def need (i : grid0.Coords) (X4 : Vec F S5456x128 .i32) : BitVec 1 :=
  Scalar.cmpf .ogt (k0_pay2 (F := F) (k0_pay28 X4) laneIota (colBase i)) (Scalar.ofBits .f32 0x00000000#32)

/-- What the body leaves in the weights' buffer, from the block's weights `W` and its inside marks `X4`. -/
def outW (i : grid0.Coords) (W : FVec F S5456x128 .f32) (X4 : Vec F S5456x128 .i32) : FVec F S5456x128 .f32 :=
  if need (F := F) i X4 = 1#1 then
    k0_pay5 W (k0_pay27 X4) (k0_pay28 X4) laneIota (colBase i) rowIota (k0_pay8 W) (k0_pay9 W)
  else k0_pay7 W (k0_pay27 X4)

/-- What the body leaves in the mask's buffer. -/
def outM (i : grid0.Coords) (W : FVec F S5456x128 .f32) (X4 : Vec F S5456x128 .i32) : IVec S5456x128 32 :=
  if need (F := F) i X4 = 1#1 then
    k0_pay4 (F := F) (k0_pay27 X4) (k0_pay28 X4) laneIota (colBase i) rowIota (k0_pay8 W) (k0_pay9 W)
  else k0_pay6 (F := F) (k0_pay27 X4)

/-- Widening a one-bit word and comparing with zero gives the bit back. -/
theorem ne_extui (b : BitVec 1) : Scalar.cmpi .ne (Scalar.extui b : BitVec 32) 0#32 = b := by
  revert b; decide

/-- The second branch's condition is the first one's negation. -/
theorem ne_extui_xor (b : BitVec 1) : (Scalar.cmpi .ne (Scalar.extui (Scalar.xori b 1#1) : BitVec 32) 0#32 = 1#1) ↔ ¬ b = 1#1 := by
  revert b; decide

/-- Whole stores under two opposite conditions: the buffer ends at the first payload when the first condition holds, at the
    second otherwise. -/
theorem read_two_branches {e : EltTy} (v : View sig .tc .vmem S5456x128 e) (f : v.ty.Contents (Elt F)) (n : Prop) [Decidable n] (b : BitVec 1)
    (hb : b = 1#1 ↔ n) (c₁ c₂ : BitVec 1) (h₁ : c₁ = Scalar.cmpi .ne (Scalar.extui b : BitVec 32) 0#32)
    (h₂ : c₂ = Scalar.cmpi .ne (Scalar.extui (Scalar.xori b 1#1) : BitVec 32) 0#32)
    (inb : ∀ a, (![0, 0] : Fin 2 → ℕ) a + S5456x128.size a ≤ S5456x128.size a) (w₁ w₂ : S5456x128.Idx → Elt F e) :
    v.read (Elt F) (if hc : c₂ = 1#1 then
        v.writes (Elt F) (if hc : c₁ = 1#1 then v.writes (Elt F) f [⟨Rect.unit (s := S5456x128) ![0, 0] S5456x128.size inb, w₁⟩] else f)
          [⟨Rect.unit (s := S5456x128) ![0, 0] S5456x128.size inb, w₂⟩]
      else if hc : c₁ = 1#1 then v.writes (Elt F) f [⟨Rect.unit (s := S5456x128) ![0, 0] S5456x128.size inb, w₁⟩] else f)
      = if n then w₁ else w₂ := by
  have e₁ : c₁ = 1#1 ↔ n := by rw [h₁, ne_extui]; exact hb
  have e₂ : c₂ = 1#1 ↔ ¬ n := by rw [h₂, ne_extui_xor, hb]
  by_cases hn : n
  · rw [dif_neg (by rw [e₂]; exact fun h => h hn), dif_pos (e₁.mpr hn), if_pos hn]
    exact v.read_writes_full f inb w₁ []
  · rw [dif_pos (e₂.mpr hn), if_neg hn]
    exact v.read_writes_full _ inb w₂ []

set_option maxHeartbeats 4000000 in
/-- The kernel body on whole staging buffers: from the inputs at `X0 … X4` and the outputs at anything it runs to the
    continuation that holds the inputs as they were and the outputs at `outW` and `outM` of them. -/
theorem sound_kernel (c : Dev nD) (E : Set ℕ) (i : grid0.Coords)
    (arg1 : Memref sig .tc .vmem S5456x2 .f32) (harg1 : arg1.IsWhole) (arg2 : Memref sig .tc .vmem S4x128 .f32) (harg2 : arg2.IsWhole)
    (arg3 : Memref sig .tc .vmem S4x80 .f32) (harg3 : arg3.IsWhole) (arg4 : Memref sig .tc .vmem S1x128 .i32) (harg4 : arg4.IsWhole)
    (arg5 : Memref sig .tc .vmem S5456x128 .i32) (harg5 : arg5.IsWhole) (arg6 : Memref sig .tc .vmem S5456x128 .f32) (harg6 : arg6.IsWhole)
    (arg7 : Memref sig .tc .vmem S5456x128 .i32) (harg7 : arg7.IsWhole)
    (X0 : Vec F S5456x2 .f32) (X1 : Vec F S4x128 .f32) (X2 : Vec F S4x80 .f32) (X3 : Vec F S1x128 .i32) (X4 : Vec F S5456x128 .i32)
    (K : PUnit → sProp 𝕄) :
    iprop(owns (c : Thread nD τ) arg1 fullShare X0 ∗ owns (c : Thread nD τ) arg2 fullShare X1 ∗ owns (c : Thread nD τ) arg3 fullShare X2
        ∗ owns (c : Thread nD τ) arg4 fullShare X3 ∗ owns (c : Thread nD τ) arg5 fullShare X4
        ∗ (∃ d, owns (c : Thread nD τ) arg6 fullShare d) ∗ (∃ d, owns (c : Thread nD τ) arg7 fullShare d)
        ∗ (iprop(owns (c : Thread nD τ) arg1 fullShare X0 ∗ owns (c : Thread nD τ) arg2 fullShare X1 ∗ owns (c : Thread nD τ) arg3 fullShare X2
            ∗ owns (c : Thread nD τ) arg4 fullShare X3 ∗ owns (c : Thread nD τ) arg5 fullShare X4
            ∗ owns (c : Thread nD τ) arg6 fullShare (outW i (blockW X0 X1 X2 X3) X4)
            ∗ owns (c : Thread nD τ) arg7 fullShare (outM i (blockW X0 X1 X2 X3) X4)) -∗ K ⟨⟩))
      ⊢ wp frame (wpE (defs₀ (F := F)) Variants.none c none) E
          (cc0__center_prior_kernel i arg1 harg1 arg2 harg2 arg3 harg3 arg4 harg4 arg5 harg5 arg6 harg6 arg7 harg7) K := by
  simp only [cc0__center_prior_kernel_eq_skeleton]; unfold cc0__center_prior_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  have e2 := arg2.view.readAt_full (Val := Elt F) f2 inb_S4x128_S4x128_0_0
  have e3 := arg3.view.readAt_full (Val := Elt F) f3 inb_S4x80_S4x80_0_0
  have e4 := arg4.view.readAt_full (Val := Elt F) f4 inb_S1x128_S1x128_0_0
  have e5 := arg5.view.readAt_full (Val := Elt F) f5 inb_S5456x128_S5456x128_0_0
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    refine (read_two_branches arg6.view f6 (need (F := F) i (arg5.view.read (Elt F) f5) = 1#1) _ ?_ _ _ rfl rfl inb_S5456x128_S5456x128_0_0 _ _).trans ?_
    · sl_unfold_run_names; rw [e5]; exact Iff.rfl
    · sl_unfold_run_names; rw [e2, e3, e4, e5]; rfl
  · iexists _; isplitr
    swap; · iexact H7
    ipureintro
    refine (read_two_branches arg7.view f7 (need (F := F) i (arg5.view.read (Elt F) f5) = 1#1) _ ?_ _ _ rfl rfl inb_S5456x128_S5456x128_0_0 _ _).trans ?_
    · sl_unfold_run_names; rw [e5]; exact Iff.rfl
    · sl_unfold_run_names; rw [e2, e3, e4, e5]; rfl

end Cert.Assign

end
-- ==== Proof.Setup.lean ====
/-
  The launch of the kernel: @main around its one region, the arrays as the region finds them, each window's block, and the
  proof data of the pipeline, at any float values.
-/
module

public import proofs.«01_k».proof.Proof.Body

@[expose] public section

set_option maxRecDepth 16384

noncomputable section

namespace Cert.Assign

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations before the region allocate nothing. -/
theorem hostOps0_fresh : (hostOps0 : List (HloOp τ sig (Elt F))).Forall fun op => op.fresh = ∅ := by
  simp only [List.Forall]; repeat' constructor
/-- Nor do those after it. -/
theorem hostOps1_fresh : (hostOps1 : List (HloOp τ sig (Elt F))).Forall fun op => op.fresh = ∅ := by
  simp only [List.Forall]; repeat' constructor

set_option maxHeartbeats 800000 in
/-- @main around the region: the host lines before it, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The references the lines before the region write. -/
abbrev preRefs : List (Ref sig .tc) :=
  [main_call0_v0, main_call0_v1, main_call0_v2, main_call0_v3, main_call0_v4, main_call0_v5, main_call0_v6]
/-- The references the lines after the region write. -/
abbrev postRefs : List (Ref sig .tc) := [main_call0_c, main_call0_v8, main_call0_v9, main_v0_1]

/-- A line after the region writes one of `postRefs`. -/
theorem sfx_writes : ∀ ops ∈ ([hostOps1] : List (List (HloOp τ sig (Elt F)))), ∀ op ∈ ops,
    ∃ b ∈ postRefs, op.writes = {Proc.devRef .tc b} := by
  intro ops hops op hop
  simp only [List.mem_cons, List.mem_nil_iff, or_false] at hops
  rcases hops with rfl
  simp only [hostOps1, List.mem_cons, List.mem_nil_iff, or_false] at hop
  rcases hop with rfl | rfl | rfl | rfl
  · exact ⟨main_call0_c, by decide, rfl⟩
  · exact ⟨main_call0_v8, by decide, rfl⟩
  · exact ⟨main_call0_v9, by decide, rfl⟩
  · exact ⟨main_v0_1, by decide, rfl⟩

/-- A line before the region writes one of `preRefs`. -/
theorem pre_writes : ∀ op ∈ (List.flatten [hostOps0] : List (HloOp τ sig (Elt F))),
    ∃ b ∈ preRefs, op.writes = {Proc.devRef .tc b} := by
  intro op hop
  simp only [hostOps0, List.flatten_cons, List.flatten_nil, List.append_nil, List.mem_cons, List.mem_nil_iff, or_false] at hop
  rcases hop with rfl | rfl | rfl | rfl | rfl | rfl | rfl
  · exact ⟨main_call0_v0, by decide, rfl⟩
  · exact ⟨main_call0_v1, by decide, rfl⟩
  · exact ⟨main_call0_v2, by decide, rfl⟩
  · exact ⟨main_call0_v3, by decide, rfl⟩
  · exact ⟨main_call0_v4, by decide, rfl⟩
  · exact ⟨main_call0_v5, by decide, rfl⟩
  · exact ⟨main_call0_v6, by decide, rfl⟩

/-- The lines after the region write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop w hw
  obtain ⟨b, hb, e⟩ := sfx_writes ops hops op hop
  rw [e, Finset.mem_singleton] at hw
  exact StableHlo.devRef_ne_of_ne ((by decide : ∀ w, ∀ b ∈ postRefs, Pipeline.arrRef spec0 w ≠ b) w b hb) hw

/-- What no line before the region writes, the region finds as launched. -/
theorem V_keep (c : Dev nD) (b : Ref sig .tc) (hb : b ∉ preRefs) : V m c b = m ((c : Thread nD τ).loc b) :=
  StableHlo.after_of_forall_not_mem (b := Proc.devRef .tc b) _ _ fun op hop hw => by
    obtain ⟨b', hb', e⟩ := pre_writes op hop
    rw [e, Finset.mem_singleton] at hw
    exact StableHlo.devRef_ne_of_ne (fun h : b = b' => hb (h ▸ hb')) hw

/-- What no host line and no window writes ends as launched. -/
theorem W_keep (dats : (p : Fin 1) → (c : Dev nD) → Dat τ (Elt F) Unit ℕ (UR sig nD τ) ℕ (cfgs p) c) (c : Dev nD) (b : Ref sig .tc)
    (hb : b ∉ preRefs) (hb' : b ∉ postRefs) (hw : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ (fun op hop hmem => by
      obtain ⟨b₁, hb₁, e⟩ := sfx_writes hostOps1 (by simp) op (by simpa using hop)
      rw [e, Finset.mem_singleton] at hmem
      exact StableHlo.devRef_ne_of_ne (fun h : b = b₁ => hb' (h ▸ hb₁)) hmem),
    Pipeline.withArrays_of_ne _ c (V0 m c) _ b hw]
  exact V_keep m c b hb

/-! ## The windows' blocks and the proof data -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The boxes' buffer after the fetch at point `t`: the block where it lies inside the array, `d` past its end. -/
abbrev in1 (c : Dev nD) (t : Fin cfg0.N) (d : Vec F S4x128 .f32) : Vec F S4x128 .f32 := win0_1.fill (grid0.coords t) d (iblk m c 1 t)
/-- The labels' buffer likewise. -/
abbrev in3 (c : Dev nD) (t : Fin cfg0.N) (d : Vec F S1x128 .i32) : Vec F S1x128 .i32 := win0_3.fill (grid0.coords t) d (iblk m c 3 t)
/-- The inside marks' buffer likewise. -/
abbrev in4 (c : Dev nD) (t : Fin cfg0.N) (d : Vec F S5456x128 .i32) : Vec F S5456x128 .i32 := win0_4.fill (grid0.coords t) d (iblk m c 4 t)

/-- The proof data of the pipeline on core `c`, for any stated contents `O5`, `O6` of the two outputs' buffers after the
    body: the arrays as the region finds them; each input's buffer at its block (zero past the array's end); nothing owed. -/
def dats (O5 : Dev nD → Fin cfg0.N → FVec F S5456x128 .f32) (O6 : Dev nD → Fin cfg0.N → IVec S5456x128 32) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => in1 m c t (fun _ => Scalar.ofBits .f32 0#32)
    | ⟨2, _⟩ => iblk m c 2 t
    | ⟨3, _⟩ => in3 m c t (fun _ => 0#32)
    | ⟨4, _⟩ => in4 m c t (fun _ => 0#32)
    | ⟨5, _⟩ => O5 c t
    | ⟨6, _⟩ => O6 c t
  Φ _ := Pipeline.ΦA spec0 c
  q _ := fullShare
  owed _ := 0

variable (O5 : Dev nD → Fin cfg0.N → FVec F S5456x128 .f32) (O6 : Dev nD → Fin cfg0.N → IVec S5456x128 32)

/-- The proof data's arrays are what the region finds. -/
theorem A_eq (c : Dev nD) (w : Fin cfg0.W) : (dats m O5 O6 0 c).A w = V m c (Pipeline.arrRef spec0 w) := by dsimp only [dats]

/-- The points' buffer after the body. -/
theorem after_0 (c : Dev nD) (t : Fin cfg0.N) : (dats m O5 O6 0 c).after 0 t = iblk m c 0 t := by dsimp only [dats]
/-- The table's buffer after the body. -/
theorem after_2 (c : Dev nD) (t : Fin cfg0.N) : (dats m O5 O6 0 c).after 2 t = iblk m c 2 t := by dsimp only [dats]

/-- The points' buffer holds the points at every grid point. -/
theorem before_0 (c : Dev nD) (t : Fin cfg0.N) (d) : (dats m O5 O6 0 c).before 0 t d = iblk m c 0 t :=
  ((dats m O5 O6 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
/-- The table's buffer holds the table at every grid point. -/
theorem before_2 (c : Dev nD) (t : Fin cfg0.N) (d) : (dats m O5 O6 0 c).before 2 t d = iblk m c 2 t :=
  ((dats m O5 O6 0 c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)
/-- The three clipped inputs' buffers have just been fetched: the block inside the array, anything past its end. -/
theorem before_1 (c : Dev nD) (t : Fin cfg0.N) (d) : (dats m O5 O6 0 c).before 1 t d = in1 m c t d := by
  rw [Dat.before_fetched _ 1 t (fetch0_1 t)]; rfl
/-- The labels' buffer before the body. -/
theorem before_3 (c : Dev nD) (t : Fin cfg0.N) (d) : (dats m O5 O6 0 c).before 3 t d = in3 m c t d := by
  rw [Dat.before_fetched _ 3 t (fetch0_3 t)]; rfl
/-- The inside marks' buffer before the body. -/
theorem before_4 (c : Dev nD) (t : Fin cfg0.N) (d) : (dats m O5 O6 0 c).before 4 t d = in4 m c t d := by
  rw [Dat.before_fetched _ 4 t (fetch0_4 t)]; rfl
/-- The outputs' buffers hold anything. -/
theorem before_5 (c : Dev nD) (t : Fin cfg0.N) (d) : (dats m O5 O6 0 c).before 5 t d = d :=
  Dat.before_out_reset _ 5 rfl t (by by_cases h : t.val = 0; · exact .inl h
                                     · exact .inr ⟨h, flush0_5 _⟩) d
/-- The marks' result buffer before the body holds whatever it held. -/
theorem before_6 (c : Dev nD) (t : Fin cfg0.N) (d) : (dats m O5 O6 0 c).before 6 t d = d :=
  Dat.before_out_reset _ 6 rfl t (by by_cases h : t.val = 0; · exact .inl h
                                     · exact .inr ⟨h, flush0_6 _⟩) d

/-- A clipped window's buffer handed back: filled with its block, it is filled with the part of the stated contents that lies
    inside the array, when the block is that part. -/
theorem leave_clipped (w : Fin cfg0.W) (c : Dev nD) (t : Fin cfg0.N) (s : Memref sig .tc (.core (cfg0.win w).stageSpace) (cfg0.win w).block (cfg0.win w).elt)
    (d X : (cfg0.win w).block.Idx → Elt F (cfg0.win w).elt) (x : ((cfg0.win w).xblock (cfg0.grid.coords t)).Idx → Elt F (cfg0.win w).elt)
    (h : (cfg0.win w).cut (cfg0.grid.coords t) X = x) :
    (owns (c : Thread nD τ) s fullShare ((cfg0.win w).fill (cfg0.grid.coords t) d x) : sProp 𝕄)
      ⊢ iprop(∃ d, owns (c : Thread nD τ) s fullShare ((cfg0.win w).fill (cfg0.grid.coords t) d ((cfg0.win w).cut (cfg0.grid.coords t) X))) := by
  iintro H; iexists d; rw [h]; iexact H

/-- The boxes' block, cut to the array, is what was fetched. -/
theorem cut_after_1 (c : Dev nD) (t : Fin cfg0.N) : (cfg0.win 1).cut (cfg0.grid.coords t) ((dats m O5 O6 0 c).after 1 t) = iblk m c 1 t := by
  dsimp only [dats]; exact Window.cut_fill _ _ _ _
/-- The labels' likewise. -/
theorem cut_after_3 (c : Dev nD) (t : Fin cfg0.N) : (cfg0.win 3).cut (cfg0.grid.coords t) ((dats m O5 O6 0 c).after 3 t) = iblk m c 3 t := by
  dsimp only [dats]; exact Window.cut_fill _ _ _ _
/-- The inside marks' likewise. -/
theorem cut_after_4 (c : Dev nD) (t : Fin cfg0.N) : (cfg0.win 4).cut (cfg0.grid.coords t) ((dats m O5 O6 0 c).after 4 t) = iblk m c 4 t := by
  dsimp only [dats]; exact Window.cut_fill _ _ _ _

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

end Cert.Assign

end
-- ==== Proof.Frame.lean ====
/-
  The frame: the kernel runs from any memory, its ten arguments end unchanged and every semaphore counter ends at zero.
  Nothing is said here of what the two results hold, so the two output windows are forgotten.
-/
module

public import proofs.«01_k».proof.Proof.Setup

@[expose] public section

set_option maxRecDepth 16384

noncomputable section

namespace Cert.Assign

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two output windows. -/
def outs : Fin cfg0.W → Bool := fun w => w == 5 || w == 6

/-- Some contents of the weights' buffer, which the frame does not look at. -/
abbrev any5 : Dev nD → Fin cfg0.N → FVec F S5456x128 .f32 := fun _ _ _ => Scalar.ofBits .f32 0#32
/-- Some contents of the mask's buffer. -/
abbrev any6 : Dev nD → Fin cfg0.N → IVec S5456x128 32 := fun _ _ _ => 0#32

/-- The body's obligation with the outputs forgotten: the inputs' buffers keep their blocks. -/
theorem body_forget (c : Dev nD) : BodyObligationLoose (dats m any5 any6 0 c) (defs₀ (F := F)) Variants.none () Set.univ outs := fun t => by
  rw [bigSep_W0, bigSep_W0, defs₀_row]
  simp only [show outs (0 : Fin 7) = false from rfl, show outs (1 : Fin 7) = false from rfl, show outs (2 : Fin 7) = false from rfl,
    show outs (3 : Fin 7) = false from rfl, show outs (4 : Fin 7) = false from rfl, show outs (5 : Fin 7) = true from rfl,
    show outs (6 : Fin 7) = true from rfl]
  rw [show (dats m any5 any6 0 c).Φ t.succ = (dats m any5 any6 0 c).Φ t.castSucc from rfl,
    show (dats m any5 any6 0 c).owesAt () t.succ = (dats m any5 any6 0 c).owesAt () t.castSucc from rfl]
  iintro ⟨HΦ, Ho, ⟨%d0, H0⟩, ⟨%d1, H1⟩, ⟨%d2, H2⟩, ⟨%d3, H3⟩, ⟨%d4, H4⟩, H5, H6⟩
  rw [before_0, before_1, before_2, before_3, before_4]
  unfold bodyAt0
  iapply (sound_kernel c Set.univ (grid0.coords t) _ _ _ _ _ _ _ _ _ _ _ _ _ _ (iblk m c 0 t) (in1 m c t d1) (iblk m c 2 t) (in3 m c t d3) (in4 m c t d4) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]
  · iapply (leave_clipped 1 c t _ d1 _ _ (cut_after_1 m any5 any6 c t)); iexact H1
  isplitl [H2]; · iexact H2
  isplitl [H3]
  · iapply (leave_clipped 3 c t _ d3 _ _ (cut_after_3 m any5 any6 c t)); iexact H3
  isplitl [H4]
  · iapply (leave_clipped 4 c t _ d4 _ _ (cut_after_4 m any5 any6 c t)); iexact H4
  isplitl [H5]
  · iexists _; iexact H5
  · iexists _; iexact H6

set_option backward.isDefEq.respectTransparency.types false in
/-- THE FRAME: from any memory with zero counters the kernel runs, its arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  refine Pipeline.θ_run_frame_around_T_forget cfgs (dats m any5 any6) (0 : Fin 1) launch0 defs₀ Variants.none outs postRefs.toFinset m ρ main
    (hbody := body_forget m) (hshare := fun c => (dats m any5 any6 0 c).share_full fun _ => rfl) (howed := fun _ _ => rfl)
    (V₀ := V0 m) (opss := [hostOps1]) sfx_sub sfx_fresh sfx_keeps
    (fun ops hops op hop b hb => by
      obtain ⟨b', hb', e⟩ := sfx_writes ops hops op hop
      rw [e, Finset.mem_singleton] at hb
      by_cases h : b = b'
      · subst h; exact List.mem_toFinset.mpr hb'
      · exact absurd hb (StableHlo.devRef_ne_of_ne h))
    (hmain := hmain m Variants.none) (hA := A_eq m any5 any6) (hΦ := fun _ _ => rfl) (Q' := _) (hQ' := ?_)
  rintro r ⟨h, hz⟩
  have key : ∀ (c : Dev nD) (b : Ref sig .tc), b ∈ Pipeline.restRefs sig spec0 \ postRefs.toFinset → b ∉ preRefs →
      r.2.mem ((c.tc : Thread nD τ).loc b) = m ((c.tc : Thread nD τ).loc b) := fun c b hb hb' =>
    ((h c).2 b hb).trans (V_keep m c b hb')
  have rest : ∀ b : Ref sig .tc, b ∈ Pipeline.restRefs sig spec0 → b ∉ postRefs → b ∈ Pipeline.restRefs sig spec0 \ postRefs.toFinset :=
    fun b h₁ h₂ => Finset.mem_sdiff.mpr ⟨h₁, fun h => h₂ (List.mem_toFinset.mp h)⟩
  refine ⟨fun c => ⟨?_, ?_, ?_, ?_, ?_, ?_, ?_, ?_, ?_, ?_⟩, hz⟩ <;>
    exact key c _ (rest _ (Pipeline.mem_restRefs_of _ (by decide) (by decide)) (by decide)) (by decide)

end Cert.Assign

end
-- ==== Proof.Transport.lean ====
/-
  The kernel at the ideal reading is, operation for operation, the kernel itself (no rewrite was applied): the two programs are
  one, so the frame proved at any float values serves both.
-/
module

public import proofs.«01_k».proof.Proof.Frame
public import proofs.«01_k».proof.Defs
public import proofs.«01_k».proof.Proof.Gen.Kernel

@[expose] public section

noncomputable section

namespace Cert.Assign

open Idealize.ShloMosaic Idealize.SL.Sem

/-- The two programs' body tables agree: one label, the same body. -/
theorem defs₀_eq : (Cert.Kernel.defs₀ (F := Bits)) = Cert.KernelIdeal.defs₀ (F := Bits) := by
  unfold Cert.Kernel.defs₀ Cert.KernelIdeal.defs₀
  refine congrArg Defs.onTc (funext fun f => funext fun x => ?_)
  fin_cases f
  rfl

/-- And so do their tables of labels with the pipeline's own. -/
theorem defs_eq : (Cert.Kernel.defs (F := Bits)) = Cert.KernelIdeal.defs (F := Bits) :=
  congrArg (Pipeline.defs (Cert.KernelIdeal.pcfgs (F := Bits))) defs₀_eq

/-- And their host programs. -/
theorem main_eq : (Cert.Kernel.main (F := Bits)) = Cert.KernelIdeal.main (F := Bits) := rfl

set_option maxHeartbeats 1000000 in
/-- The frame of the kernel as compiled, at the machine's floats. -/
theorem frame_kernel : Cert.quiescent_Kernel (hKernel := Cert.Kernel.Gen.facts) := fun m g _ => by
  have h := Cert.Assign.frame (F := Bits) m g
  rw [← defs_eq] at h
  exact h

end Cert.Assign

end
-- ==== Proof.Scalar.lean ====
/-
  The arithmetic of one weight over the extended reals: the kernel's form (one exponential of a sum, the distance scaled by a
  reciprocal stride) against the plain form (a product of two exponentials of quotients).
-/
module

public import Idealize.ShloMosaic.PureOps.Ideal.Laws
public import Idealize.ShloMosaic.Lib.IdealHost

@[expose] public section

noncomputable section

namespace Cert.Assign

open Idealize.ShloMosaic

/-- A level's stride `s`, as the plain program divides by it, and `i`, the reciprocal that the kernel multiplies by. -/
def Recip (i s : EReal) : Prop := ∃ x : ℝ, 0 < x ∧ s = ((x : ℝ) : EReal) ∧ i = ((x⁻¹ : ℝ) : EReal)

/-- 1/8 and 8. -/
theorem recip8 : Recip (Ideal.ofBits .f32 0x3E000000#32) (Ideal.ofBits .f32 0x41000000#32) :=
  ⟨8, by norm_num, by simp [Ideal.ofBits, Ideal.ieee]; norm_cast; norm_num, by simp [Ideal.ofBits, Ideal.ieee]; norm_cast; norm_num⟩
/-- 1/16 and 16. -/
theorem recip16 : Recip (Ideal.ofBits .f32 0x3D800000#32) (Ideal.ofBits .f32 0x41800000#32) :=
  ⟨16, by norm_num, by simp [Ideal.ofBits, Ideal.ieee]; norm_cast; norm_num, by simp [Ideal.ofBits, Ideal.ieee]; norm_cast; norm_num⟩
/-- 1/32 and 32. -/
theorem recip32 : Recip (Ideal.ofBits .f32 0x3D000000#32) (Ideal.ofBits .f32 0x42000000#32) :=
  ⟨32, by norm_num, by simp [Ideal.ofBits, Ideal.ieee]; norm_cast; norm_num, by simp [Ideal.ofBits, Ideal.ieee]; norm_cast; norm_num⟩
/-- 1/64 and 64. -/
theorem recip64 : Recip (Ideal.ofBits .f32 0x3C800000#32) (Ideal.ofBits .f32 0x42800000#32) :=
  ⟨64, by norm_num, by simp [Ideal.ofBits, Ideal.ieee]; norm_cast; norm_num, by simp [Ideal.ofBits, Ideal.ieee]; norm_cast; norm_num⟩
/-- 1/128 and 128. -/
theorem recip128 : Recip (Ideal.ofBits .f32 0x3C000000#32) (Ideal.ofBits .f32 0x43000000#32) :=
  ⟨128, by norm_num, by simp [Ideal.ofBits, Ideal.ieee]; norm_cast; norm_num, by simp [Ideal.ofBits, Ideal.ieee]; norm_cast; norm_num⟩
/-- 1/2 and 2. -/
theorem recip2 : Recip (Ideal.ofBits .f32 0x3F000000#32) (Ideal.ofBits .f32 0x40000000#32) :=
  ⟨2, by norm_num, by simp [Ideal.ofBits, Ideal.ieee]; norm_cast; norm_num, by simp [Ideal.ofBits, Ideal.ieee]; norm_cast; norm_num⟩
/-- The word of minus one. -/
theorem ofBits_neg_one : Ideal.ofBits .f32 0xBF800000#32 = ((-1 : ℝ) : EReal) := by
  simp [Ideal.ofBits, Ideal.ieee]; norm_cast; norm_num
/-- The word of a half. -/
theorem ofBits_half : Ideal.ofBits .f32 0x3F000000#32 = ((1/2 : ℝ) : EReal) := by
  simp [Ideal.ofBits, Ideal.ieee]; norm_cast; norm_num
/-- The word of two. -/
theorem ofBits_two : Ideal.ofBits .f32 0x40000000#32 = ((2 : ℝ) : EReal) := by
  simp [Ideal.ofBits, Ideal.ieee]; norm_cast; norm_num

/-- Dividing by the stride is multiplying by its reciprocal. -/
theorem div_recip {i s : EReal} (h : Recip i s) (x : EReal) : Ideal.div x s = x * i := by
  obtain ⟨r, hr, rfl, rfl⟩ := h
  rw [Ideal.div, if_neg (by exact_mod_cast hr.ne'), EReal.coe_inv]

/-- The squared distance is the same whether point and centre are scaled apart or their difference is: where one of the three
    is infinite both differences are, and both squares are the infinity. -/
theorem dist_sq {i s : EReal} (h : Recip i s) (p c m : EReal) :
    (p * i - (c * i + m)) * (p * i - (c * i + m)) = (Ideal.div (p - c) s - m) * (Ideal.div (p - c) s - m) := by
  rw [div_recip h]
  obtain ⟨r, hr, rfl, rfl⟩ := h
  have hi : (0 : ℝ) < r⁻¹ := inv_pos.2 hr
  generalize r⁻¹ = q at hi ⊢
  induction p <;> induction c <;> induction m <;>
    simp [EReal.top_mul_coe_of_pos hi, EReal.bot_mul_coe_of_pos hi, sub_eq_add_neg, ← EReal.coe_mul, ← EReal.coe_add, ← EReal.coe_neg]
  ring

/-- A square of an extended real is nonnegative. -/
theorem sq_nonneg' (x : EReal) : 0 ≤ x * x := by
  induction x
  · simp
  · rw [← EReal.coe_mul]; exact_mod_cast mul_self_nonneg _
  · simp

/-- An exponential is nonnegative. -/
theorem exp_nonneg' (x : EReal) : 0 ≤ Ideal.exp x := by
  induction x
  · exact le_rfl
  · exact EReal.coe_nonneg.2 (Real.exp_pos _).le
  · exact le_top

/-- The exponential of a sum of two nonpositive exponents is the product of the exponentials. -/
theorem exp_add {x y : EReal} (hx : x ≤ 0) (hy : y ≤ 0) : Ideal.exp (x + y) = Ideal.exp x * Ideal.exp y := by
  have hb : Ideal.exp ⊥ = 0 := rfl
  have hr : ∀ r : ℝ, Ideal.exp (r : EReal) = (Real.exp r : EReal) := fun _ => rfl
  induction x
  · rw [EReal.bot_add, hb, zero_mul]
  · induction y
    · rw [EReal.add_bot, hb, mul_zero]
    · rw [← EReal.coe_add, hr, hr, hr, Real.exp_add, EReal.coe_mul]
    · exact absurd hy (by simp)
  · exact absurd hx (by simp)

/-- Minus a nonnegative is not positive. -/
theorem neg_nonpos' {x : EReal} (h : 0 ≤ x) : -x ≤ 0 := by
  rw [← neg_zero]; exact EReal.neg_le_neg_iff.2 h

/-- The kernel's weight of a point at `(px, py)` for a box centred at `(cx, cy)`. -/
def kw (i px py cx cy mx my nx ny : EReal) : EReal :=
  Ideal.exp ((px * i - (cx * i + mx)) * (px * i - (cx * i + mx)) * nx + (py * i - (cy * i + my)) * (py * i - (cy * i + my)) * ny)

/-- One coordinate's factor of the plain weight. -/
def rf (s p c m σ : EReal) : EReal :=
  Ideal.exp (Ideal.div (-((Ideal.div (p - c) s - m) * (Ideal.div (p - c) s - m))) (Ideal.ofBits .f32 0x40000000#32 * (σ * σ)))

/-- The kernel's multiplier of a squared distance. -/
def nf (σ : EReal) : EReal := Ideal.div (Ideal.ofBits .f32 0xBF800000#32) ((Ideal.ofBits .f32 0x40000000#32 * σ) * σ)

/-- A factor is nonnegative. -/
theorem rf_nonneg (s p c m σ : EReal) : 0 ≤ rf s p c m σ := exp_nonneg' _

/-- Twice a square is nonnegative. -/
theorem two_sq_nonneg (σ : EReal) : 0 ≤ Ideal.ofBits .f32 0x40000000#32 * (σ * σ) :=
  EReal.mul_nonneg (by rw [ofBits_two]; exact_mod_cast (by norm_num : (0:ℝ) ≤ 2)) (sq_nonneg' _)

/-- A factor whose sigma is zero is zero. -/
theorem rf_zero (s p c m : EReal) : rf s p c m 0 = 0 := by
  have h := sq_nonneg' (Ideal.div (p - c) s - m)
  rw [rf, mul_zero, mul_zero, Ideal.div, if_pos rfl, if_neg]
  · rfl
  · exact not_lt.2 (neg_nonpos' h)

/-- The exponents agree where sigma is not zero. -/
theorem expo_eq (D σ : EReal) (hσ : σ ≠ 0) : D * nf σ = Ideal.div (-D) (Ideal.ofBits .f32 0x40000000#32 * (σ * σ)) := by
  have hq : Ideal.ofBits .f32 0x40000000#32 * (σ * σ) ≠ 0 := by
    rw [ofBits_two]
    exact mul_ne_zero (by exact_mod_cast (by norm_num : (2:ℝ) ≠ 0)) (mul_ne_zero hσ hσ)
  rw [nf, mul_assoc, Ideal.div, Ideal.div, if_neg hq, if_neg hq, ofBits_neg_one]
  rw [show (((-1 : ℝ)) : EReal) = -1 from rfl, EReal.neg_mul, one_mul, mul_comm D, EReal.neg_mul, EReal.neg_mul, mul_comm D]

/-- Minus a nonnegative divided by a nonnegative is not positive. -/
theorem expo_nonpos {D q : EReal} (hD : 0 ≤ D) (hq : 0 ≤ q) : Ideal.div (-D) q ≤ 0 := by
  have hn : -D ≤ 0 := neg_nonpos' hD
  unfold Ideal.div
  split
  · rw [if_neg (not_lt.2 hn)]; exact bot_le
  · rw [EReal.neg_mul]
    exact neg_nonpos' (EReal.mul_nonneg hD (EReal.inv_nonneg_of_nonneg hq))

/-- The kernel's weight is the plain weight where neither sigma is zero. -/
theorem kw_eq {i s : EReal} (h : Recip i s) (px py cx cy mx my σx σy : EReal) (hx : σx ≠ 0) (hy : σy ≠ 0) :
    kw i px py cx cy mx my (nf σx) (nf σy) = rf s px cx mx σx * rf s py cy my σy := by
  rw [kw, dist_sq h, dist_sq h, expo_eq _ _ hx, expo_eq _ _ hy]
  exact exp_add (expo_nonpos (sq_nonneg' _) (two_sq_nonneg _)) (expo_nonpos (sq_nonneg' _) (two_sq_nonneg _))

/-- A sum of the entries of a table row, each times the mark "this is the label", is the label's entry. -/
theorem one_hot (f : Fin 80 → EReal) (lab : BitVec 32) (k : Fin 80) (hk : lab = BitVec.ofNat 32 k.val) :
    ∑ x : Fin 80, f x * (FloatOps.sitofp (F := Ideal) FTy.f32 (BitVec.setWidth 32 (IntOp.cmpi CmpIPredicate.eq (BitVec.ofNat 32 x.val) lab)) : EReal) = f k := by
  have key : ∀ x : Fin 80, (BitVec.setWidth 32 (IntOp.cmpi CmpIPredicate.eq (BitVec.ofNat 32 x.val) (BitVec.ofNat 32 k.val)) : BitVec 32) = if x = k then 1#32 else 0#32 := by
    clear hk; revert k; decide +kernel
  rw [hk, Finset.sum_eq_single k]
  · rw [key, if_pos rfl]
    show f k * (((1#32 : BitVec 32).toInt : ℝ) : EReal) = _
    simp
  · intro x _ hx
    rw [key, if_neg hx]
    show f x * (((0#32 : BitVec 32).toInt : ℝ) : EReal) = _
    simp
  · simp

end Cert.Assign
-- ==== Proof.Rows.lean ====
/-
  The five levels' rows one under the other: which level a row of the whole lies in, and what a concatenation of the five holds there.
-/
module

public import Idealize.ShloMosaic.Lib.Pointwise
public import Idealize.ShloMosaic.Lib.Pipeline.Value

@[expose] public section

noncomputable section

namespace Cert.Assign

open Idealize.ShloMosaic

/-- A statement about every row holds when it holds level by level. -/
theorem rows_cases {P : Fin 5456 → Prop} (h0 : ∀ R (r : Fin 4096), R.val = r.val → P R)
    (h1 : ∀ R (r : Fin 1024), R.val = 4096 + r.val → P R) (h2 : ∀ R (r : Fin 256), R.val = 5120 + r.val → P R)
    (h3 : ∀ R (r : Fin 64), R.val = 5376 + r.val → P R) (h4 : ∀ R (r : Fin 16), R.val = 5440 + r.val → P R) (R : Fin 5456) : P R := by
  have := R.isLt
  by_cases a : R.val < 4096
  · exact h0 R ⟨R.val, a⟩ rfl
  by_cases b : R.val < 5120
  · exact h1 R ⟨R.val - 4096, by omega⟩ (show R.val = 4096 + (R.val - 4096) by omega)
  by_cases c : R.val < 5376
  · exact h2 R ⟨R.val - 5120, by omega⟩ (show R.val = 5120 + (R.val - 5120) by omega)
  by_cases d : R.val < 5440
  · exact h3 R ⟨R.val - 5376, by omega⟩ (show R.val = 5376 + (R.val - 5376) by omega)
  · exact h4 R ⟨R.val - 5440, by omega⟩ (show R.val = 5440 + (R.val - 5440) by omega)

variable {α : Type} {m : Nat}

/-- The matrices of one level, `n` rows of `m`. -/
abbrev Sh (n m : Nat) : Shape := ⟨2, ![n, m]⟩

/-- A concatenation at row `R`, which is row `r` of piece `k` below `pre` rows of the pieces before. -/
theorem cat_at (xs : List ((s : Shape) × (s.Idx → α))) (h : Shape.Concatenates (xs.map (·.1)) (Sh 5456 m) 0) (k n : Nat)
    (y : (Sh n m).Idx → α) (pre : Nat) (hk : k < xs.length) (hy : xs[k] = ⟨Sh n m, y⟩)
    (hpre : (((xs.take k).map (·.1)).map fun s => if h : s.rank = (Sh 5456 m).rank then s.size ((0 : Fin (Sh 5456 m).rank).cast h.symm) else 0).sum = pre)
    (R : Fin 5456) (r : Fin n) (l : Fin m) (hR : R.val = pre + r.val) :
    concatenate (Sh 5456 m) 0 xs h (ix2 R l) = y (ix2 r l) := by
  refine concatenate_apply_piece 0 xs h (ix2 R l) k hk (Sh n m) y hy rfl pre hpre (ix2 r l) ?_ hR.symm
  intro b hb
  match b with
  | ⟨0, _⟩ => exact absurd rfl hb
  | ⟨1, _⟩ => rfl

variable (x0 : (Sh 4096 m).Idx → α) (x1 : (Sh 1024 m).Idx → α) (x2 : (Sh 256 m).Idx → α) (x3 : (Sh 64 m).Idx → α) (x4 : (Sh 16 m).Idx → α)
  (h : Shape.Concatenates ([⟨Sh 4096 m, x0⟩, ⟨Sh 1024 m, x1⟩, ⟨Sh 256 m, x2⟩, ⟨Sh 64 m, x3⟩, ⟨Sh 16 m, x4⟩].map
    (fun p : (s : Shape) × (s.Idx → α) => p.1)) (Sh 5456 m) 0)

/-- The concatenation at a row of each level. -/
theorem cat0 (R : Fin 5456) (r : Fin 4096) (l : Fin m) (hR : R.val = r.val) :
    concatenate (Sh 5456 m) 0 [⟨Sh 4096 m, x0⟩, ⟨Sh 1024 m, x1⟩, ⟨Sh 256 m, x2⟩, ⟨Sh 64 m, x3⟩, ⟨Sh 16 m, x4⟩] h (ix2 R l) = x0 (ix2 r l) :=
  cat_at _ h 0 4096 x0 0 (by simp) rfl rfl R r l (by rw [Nat.zero_add]; exact hR)
/-- A row of the second piece. -/
theorem cat1 (R : Fin 5456) (r : Fin 1024) (l : Fin m) (hR : R.val = 4096 + r.val) :
    concatenate (Sh 5456 m) 0 [⟨Sh 4096 m, x0⟩, ⟨Sh 1024 m, x1⟩, ⟨Sh 256 m, x2⟩, ⟨Sh 64 m, x3⟩, ⟨Sh 16 m, x4⟩] h (ix2 R l) = x1 (ix2 r l) :=
  cat_at _ h 1 1024 x1 4096 (by simp) rfl rfl R r l hR
/-- A row of the third piece. -/
theorem cat2 (R : Fin 5456) (r : Fin 256) (l : Fin m) (hR : R.val = 5120 + r.val) :
    concatenate (Sh 5456 m) 0 [⟨Sh 4096 m, x0⟩, ⟨Sh 1024 m, x1⟩, ⟨Sh 256 m, x2⟩, ⟨Sh 64 m, x3⟩, ⟨Sh 16 m, x4⟩] h (ix2 R l) = x2 (ix2 r l) :=
  cat_at _ h 2 256 x2 5120 (by simp) rfl rfl R r l hR
/-- A row of the fourth piece. -/
theorem cat3 (R : Fin 5456) (r : Fin 64) (l : Fin m) (hR : R.val = 5376 + r.val) :
    concatenate (Sh 5456 m) 0 [⟨Sh 4096 m, x0⟩, ⟨Sh 1024 m, x1⟩, ⟨Sh 256 m, x2⟩, ⟨Sh 64 m, x3⟩, ⟨Sh 16 m, x4⟩] h (ix2 R l) = x3 (ix2 r l) :=
  cat_at _ h 3 64 x3 5376 (by simp) rfl rfl R r l hR
/-- A row of the fifth piece. -/
theorem cat4 (R : Fin 5456) (r : Fin 16) (l : Fin m) (hR : R.val = 5440 + r.val) :
    concatenate (Sh 5456 m) 0 [⟨Sh 4096 m, x0⟩, ⟨Sh 1024 m, x1⟩, ⟨Sh 256 m, x2⟩, ⟨Sh 64 m, x3⟩, ⟨Sh 16 m, x4⟩] h (ix2 R l) = x4 (ix2 r l) :=
  cat_at _ h 4 16 x4 5440 (by simp) rfl rfl R r l hR

end Cert.Assign
-- ==== Proof.RefWeight.lean ====
/-
  The reference's weights, element by element: the product over the two coordinates of the Gaussian factor, in the level's points,
  the box's centre and the mean and sigma of the box's class.
-/
module

public import proofs.«01_k».proof.Proof.Scalar
public import proofs.«01_k».proof.Proof.Rows
public import proofs.«01_k».proof.Proof.Gen.ReferenceIdeal.Run
public import Idealize.ShloMosaic.Lib.Pointwise
public import Idealize.ShloMosaic.Lib.Tactic.CleanTypes
public import Idealize.ShloMosaic.Lib.Routing.Ops

@[expose] public section

set_option maxRecDepth 16384

noncomputable section

namespace Cert.Assign

open Cert.ReferenceIdeal Cert.ReferenceIdeal.Gen Cert.ReferenceIdeal.Value
open Idealize.ShloMosaic Idealize.ShloMosaic.TcCoe

variable (W : Valuation τ sig (Elt Ideal))

/-- A box's centre in the reference, one coordinate: the mean of the box's two ends. -/
def centre (a b : EReal) : EReal := Ideal.div (a + b) (Ideal.ofBits .f32 0x40000000#32)

/-- The reference's weight of a point for a box, from the level's stride `s`. -/
def rw2 (s px py cx cy mx my σx σy : EReal) : EReal := rf s px cx mx σx * rf s py cy my σy

/-- A box's horizontal centre. -/
theorem v17_0 (g : Fin 200) : @Eq EReal (res_main_v17 W (ix3 0 g 0))
    (centre ((W (Proc.devRef .tc main_arg5) : FVec Ideal S200x4 .f32) (ix2 g 0)) ((W (Proc.devRef .tc main_arg5) : FVec Ideal S200x4 .f32) (ix2 g 2))) := by
  unfold res_main_v17 centre; clean_types; pointwise
/-- Its vertical centre. -/
theorem v17_1 (g : Fin 200) : @Eq EReal (res_main_v17 W (ix3 0 g 1))
    (centre ((W (Proc.devRef .tc main_arg5) : FVec Ideal S200x4 .f32) (ix2 g 1)) ((W (Proc.devRef .tc main_arg5) : FVec Ideal S200x4 .f32) (ix2 g 3))) := by
  unfold res_main_v17 centre; clean_types; pointwise

/-- The first level's factors, one coordinate at a time. -/
theorem fac0 (r : Fin 4096) (g : Fin 200) (k : Fin 2) : @Eq EReal (res_main_v49 W (ix3 r g k))
    (rf (Ideal.ofBits .f32 0x41000000#32) ((W (Proc.devRef .tc main_arg0) : FVec Ideal S4096x2 .f32) (ix2 r k)) (res_main_v17 W (ix3 0 g k)) (res_main_v25 W (ix3 0 g k)) (res_main_v33 W (ix3 0 g k))) := by
  unfold res_main_v49 res_main_v41 rf; clean_types; pointwise
/-- The second level's. -/
theorem fac1 (r : Fin 1024) (g : Fin 200) (k : Fin 2) : @Eq EReal (res_main_v70 W (ix3 r g k))
    (rf (Ideal.ofBits .f32 0x41800000#32) ((W (Proc.devRef .tc main_arg1) : FVec Ideal S1024x2 .f32) (ix2 r k)) (res_main_v17 W (ix3 0 g k)) (res_main_v25 W (ix3 0 g k)) (res_main_v33 W (ix3 0 g k))) := by
  unfold res_main_v70 res_main_v62 rf; clean_types; pointwise
/-- The third level's. -/
theorem fac2 (r : Fin 256) (g : Fin 200) (k : Fin 2) : @Eq EReal (res_main_v91 W (ix3 r g k))
    (rf (Ideal.ofBits .f32 0x42000000#32) ((W (Proc.devRef .tc main_arg2) : FVec Ideal S256x2 .f32) (ix2 r k)) (res_main_v17 W (ix3 0 g k)) (res_main_v25 W (ix3 0 g k)) (res_main_v33 W (ix3 0 g k))) := by
  unfold res_main_v91 res_main_v83 rf; clean_types; pointwise
/-- The fourth level's. -/
theorem fac3 (r : Fin 64) (g : Fin 200) (k : Fin 2) : @Eq EReal (res_main_v112 W (ix3 r g k))
    (rf (Ideal.ofBits .f32 0x42800000#32) ((W (Proc.devRef .tc main_arg3) : FVec Ideal S64x2 .f32) (ix2 r k)) (res_main_v17 W (ix3 0 g k)) (res_main_v25 W (ix3 0 g k)) (res_main_v33 W (ix3 0 g k))) := by
  unfold res_main_v112 res_main_v104 rf; clean_types; pointwise
/-- The fifth level's. -/
theorem fac4 (r : Fin 16) (g : Fin 200) (k : Fin 2) : @Eq EReal (res_main_v133 W (ix3 r g k))
    (rf (Ideal.ofBits .f32 0x43000000#32) ((W (Proc.devRef .tc main_arg4) : FVec Ideal S16x2 .f32) (ix2 r k)) (res_main_v17 W (ix3 0 g k)) (res_main_v25 W (ix3 0 g k)) (res_main_v33 W (ix3 0 g k))) := by
  unfold res_main_v133 res_main_v125 rf; clean_types; pointwise

/-- Each level's weights: the product of the two factors. -/
theorem v139_0 (R : Fin 5456) (r : Fin 4096) (g : Fin 200) (hR : R.val = r.val) :
    @Eq EReal (res_main_v139 W (ix2 R g)) (@HMul.hMul EReal EReal EReal _ (res_main_v49 W (ix3 r g 0)) (res_main_v49 W (ix3 r g 1))) := by
  unfold res_main_v139; refine (cat0 _ _ _ _ _ _ R r g hR).trans ?_; clean_types; pointwise
/-- A weight in the second level's rows. -/
theorem v139_1 (R : Fin 5456) (r : Fin 1024) (g : Fin 200) (hR : R.val = 4096 + r.val) :
    @Eq EReal (res_main_v139 W (ix2 R g)) (@HMul.hMul EReal EReal EReal _ (res_main_v70 W (ix3 r g 0)) (res_main_v70 W (ix3 r g 1))) := by
  unfold res_main_v139; refine (cat1 _ _ _ _ _ _ R r g hR).trans ?_; clean_types; pointwise
/-- In the third level's. -/
theorem v139_2 (R : Fin 5456) (r : Fin 256) (g : Fin 200) (hR : R.val = 5120 + r.val) :
    @Eq EReal (res_main_v139 W (ix2 R g)) (@HMul.hMul EReal EReal EReal _ (res_main_v91 W (ix3 r g 0)) (res_main_v91 W (ix3 r g 1))) := by
  unfold res_main_v139; refine (cat2 _ _ _ _ _ _ R r g hR).trans ?_; clean_types; pointwise
/-- In the fourth level's. -/
theorem v139_3 (R : Fin 5456) (r : Fin 64) (g : Fin 200) (hR : R.val = 5376 + r.val) :
    @Eq EReal (res_main_v139 W (ix2 R g)) (@HMul.hMul EReal EReal EReal _ (res_main_v112 W (ix3 r g 0)) (res_main_v112 W (ix3 r g 1))) := by
  unfold res_main_v139; refine (cat3 _ _ _ _ _ _ R r g hR).trans ?_; clean_types; pointwise
/-- In the fifth level's. -/
theorem v139_4 (R : Fin 5456) (r : Fin 16) (g : Fin 200) (hR : R.val = 5440 + r.val) :
    @Eq EReal (res_main_v139 W (ix2 R g)) (@HMul.hMul EReal EReal EReal _ (res_main_v133 W (ix3 r g 0)) (res_main_v133 W (ix3 r g 1))) := by
  unfold res_main_v139; refine (cat4 _ _ _ _ _ _ R r g hR).trans ?_; clean_types; pointwise

/-- The stride of the level that row `R` lies in. -/
def strideOf (R : Fin 5456) : EReal :=
  if R.val < 4096 then Ideal.ofBits .f32 0x41000000#32 else if R.val < 5120 then Ideal.ofBits .f32 0x41800000#32
  else if R.val < 5376 then Ideal.ofBits .f32 0x42000000#32 else if R.val < 5440 then Ideal.ofBits .f32 0x42800000#32
  else Ideal.ofBits .f32 0x43000000#32

/-- `P` is the five levels' points one under the other. -/
structure Levels (P : Vec Ideal (Sh 5456 2) .f32) (a0 : Vec Ideal S4096x2 .f32) (a1 : Vec Ideal S1024x2 .f32) (a2 : Vec Ideal S256x2 .f32)
    (a3 : Vec Ideal S64x2 .f32) (a4 : Vec Ideal S16x2 .f32) : Prop where
  lev0 : ∀ (R : Fin 5456) (r : Fin 4096) (k : Fin 2), R.val = r.val → P (ix2 R k) = a0 (ix2 r k)
  lev1 : ∀ (R : Fin 5456) (r : Fin 1024) (k : Fin 2), R.val = 4096 + r.val → P (ix2 R k) = a1 (ix2 r k)
  lev2 : ∀ (R : Fin 5456) (r : Fin 256) (k : Fin 2), R.val = 5120 + r.val → P (ix2 R k) = a2 (ix2 r k)
  lev3 : ∀ (R : Fin 5456) (r : Fin 64) (k : Fin 2), R.val = 5376 + r.val → P (ix2 R k) = a3 (ix2 r k)
  lev4 : ∀ (R : Fin 5456) (r : Fin 16) (k : Fin 2), R.val = 5440 + r.val → P (ix2 R k) = a4 (ix2 r k)

/-- The reference's weight of point `R` for box `g`, in the named parts. -/
theorem v139_apply (P : Vec Ideal (Sh 5456 2) .f32) (hP : Levels P (W (Proc.devRef .tc main_arg0)) (W (Proc.devRef .tc main_arg1))
      (W (Proc.devRef .tc main_arg2)) (W (Proc.devRef .tc main_arg3)) (W (Proc.devRef .tc main_arg4))) (g : Fin 200) (R : Fin 5456) :
    @Eq EReal (res_main_v139 W (ix2 R g))
      (rw2 (strideOf R) (P (ix2 R 0)) (P (ix2 R 1)) (res_main_v17 W (ix3 0 g 0)) (res_main_v17 W (ix3 0 g 1))
        (res_main_v25 W (ix3 0 g 0)) (res_main_v25 W (ix3 0 g 1)) (res_main_v33 W (ix3 0 g 0)) (res_main_v33 W (ix3 0 g 1))) := by
  unfold rw2
  revert R
  refine rows_cases (fun R r h => ?_) (fun R r h => ?_) (fun R r h => ?_) (fun R r h => ?_) (fun R r h => ?_)
  · rw [v139_0 W R r g h, fac0, fac0, hP.lev0 R r 0 h, hP.lev0 R r 1 h, strideOf, if_pos (by omega)]
  · rw [v139_1 W R r g h, fac1, fac1, hP.lev1 R r 0 h, hP.lev1 R r 1 h, strideOf, if_neg (by omega), if_pos (by omega)]
  · rw [v139_2 W R r g h, fac2, fac2, hP.lev2 R r 0 h, hP.lev2 R r 1 h, strideOf, if_neg (by omega), if_neg (by omega), if_pos (by omega)]
  · rw [v139_3 W R r g h, fac3, fac3, hP.lev3 R r 0 h, hP.lev3 R r 1 h, strideOf, if_neg (by omega), if_neg (by omega), if_neg (by omega), if_pos (by omega)]
  · rw [v139_4 W R r g h, fac4, fac4, hP.lev4 R r 0 h, hP.lev4 R r 1 h, strideOf, if_neg (by omega), if_neg (by omega), if_neg (by omega), if_neg (by omega)]

/-- The means and sigmas gathered at a box's label. -/
theorem gather_apply (x : FVec Ideal S80x2 .f32) (idx : IVec S200x1 32) (g : Fin 200) (k : Fin 2) (lab : Fin 80)
    (h : idx (ix2 g 0) = BitVec.ofNat 32 lab.val) :
    Host.gather gather_S80x2_S200x1_S200x2_1_0_n_n_0_1_12 x idx (ix2 g k) = x (ix2 lab k) := by
  rw [ix2_eq_valueIdx] at h
  rw [ix2_eq_valueIdx, ix2_eq_valueIdx]
  exact Routing.gather_row _ rfl rfl rfl rfl rfl x idx g k lab h (by norm_num)

/-- A label in range is kept by the reference's wrap of negative labels. -/
theorem wrapped (lab : Fin 80) : Scalar.select (IntOp.cmpi .slt (BitVec.ofNat 32 lab.val) 0#32) (IntOp.addi (BitVec.ofNat 32 lab.val) 80#32)
    (BitVec.ofNat 32 lab.val) = BitVec.ofNat 32 lab.val := by
  revert lab; decide +kernel

/-- The mean of a box's class. -/
theorem v25_apply (g : Fin 200) (k : Fin 2) (lab : Fin 80) (h : (W (Proc.devRef .tc main_arg8) : IVec S200 32) (ix1 g) = BitVec.ofNat 32 lab.val) :
    @Eq EReal (res_main_v25 W (ix3 0 g k)) ((W (Proc.devRef .tc main_arg6) : FVec Ideal S80x2 .f32) (ix2 lab k)) := by
  refine Eq.trans ?_ (gather_apply _ (broadcastInDim S200x1 ![0] bcast_S200_S200x1_0 (select (cmpi .slt (W (Proc.devRef .tc main_arg8) : IVec S200 32) (broadcastInDim S200 ![] bcast_S_S200 (constantI S_ 32 0#32))) (addi (W (Proc.devRef .tc main_arg8) : IVec S200 32) (broadcastInDim S200 ![] bcast_S_S200 (constantI S_ 32 80#32))) (W (Proc.devRef .tc main_arg8) : IVec S200 32))) g k lab ?_)
  · unfold res_main_v25; clean_types; pointwise
  · refine Eq.trans ?_ (wrapped lab)
    rw [← h]
    pointwise
/-- The sigma of a box's class. -/
theorem v33_apply (g : Fin 200) (k : Fin 2) (lab : Fin 80) (h : (W (Proc.devRef .tc main_arg8) : IVec S200 32) (ix1 g) = BitVec.ofNat 32 lab.val) :
    @Eq EReal (res_main_v33 W (ix3 0 g k)) ((W (Proc.devRef .tc main_arg7) : FVec Ideal S80x2 .f32) (ix2 lab k)) := by
  refine Eq.trans ?_ (gather_apply _ (broadcastInDim S200x1 ![0] bcast_S200_S200x1_0 (select (cmpi .slt (W (Proc.devRef .tc main_arg8) : IVec S200 32) (broadcastInDim S200 ![] bcast_S_S200 (constantI S_ 32 0#32))) (addi (W (Proc.devRef .tc main_arg8) : IVec S200 32) (broadcastInDim S200 ![] bcast_S_S200 (constantI S_ 32 80#32))) (W (Proc.devRef .tc main_arg8) : IVec S200 32))) g k lab ?_)
  · unfold res_main_v33; clean_types; pointwise
  · refine Eq.trans ?_ (wrapped lab)
    rw [← h]
    pointwise

end Cert.Assign
-- ==== Proof.Rounds.lean ====
/-
  Marking the greatest of a column nine times: what one round does to a column, and, where the ten greatest are strictly ordered,
  which elements nine rounds have marked.
-/
module

public import Idealize.ShloMosaic.Lib.Pointwise
public import Idealize.ShloMosaic.Lib.SortFacts

@[expose] public section

noncomputable section

namespace Cert.Assign

open Idealize.ShloMosaic

variable {n m : Nat}

open Classical in
/-- The position of the greatest element of a column, the first of them at a tie. -/
def topN (f : Fin n → EReal) : ℕ :=
  (((Finset.univ.filter fun r => ∀ r', ¬ f r < f r').image fun r => r.val).min).getD 0

/-- An argmax down the rows of a matrix is, at each column, the position of the column's greatest element. -/
theorem reduceIndex_rows (h : (⟨2, ![n, m]⟩ : Shape).Reduces [0] ⟨1, ![m]⟩) (x : (⟨2, ![n, m]⟩ : Shape).Idx → EReal) (l : Fin m) :
    Ideal.reduceIndex .argMax 0 h x (ix1 l) = BitVec.ofNat 32 (topN fun r => x (ix2 r l)) := by
  have hf : ∀ i : (⟨2, ![n, m]⟩ : Shape).Idx, h.drop i = ix1 l ↔ ∃ k : Fin n, ix2 k l = i := fun i => h.fiber_r2_a0 (ix1 l) i
  unfold Ideal.reduceIndex topN
  dsimp only
  congr 3
  ext v
  simp only [Finset.mem_image, Finset.mem_filter, Finset.mem_univ, true_and, hf, if_true]
  constructor
  · rintro ⟨i, ⟨⟨k, rfl⟩, hk⟩, rfl⟩
    exact ⟨k, fun r' => hk _ ⟨r', rfl⟩, rfl⟩
  · rintro ⟨k, hk, rfl⟩
    refine ⟨ix2 k l, ⟨⟨k, rfl⟩, ?_⟩, rfl⟩
    rintro _ ⟨r', rfl⟩
    exact hk r'

/-- Where one element exceeds all the others, it is the greatest. -/
theorem topN_of_strict (f : Fin n → EReal) (p : Fin n) (h : ∀ r, r ≠ p → f r < f p) : topN f = p.val := by
  unfold topN
  have : (Finset.univ.filter fun r => ∀ r', ¬ f r < f r') = {p} := by
    ext r
    simp only [Finset.mem_filter, Finset.mem_univ, true_and, Finset.mem_singleton]
    constructor
    · intro hr
      by_contra hne
      exact hr p (h r hne)
    · rintro rfl r'
      by_cases e : r' = r
      · subst e; exact lt_irrefl _
      · exact not_lt.2 (h r' e).le
  rw [this]
  rfl

/-- One round: the column's greatest element is marked with `z`. -/
def step (z : EReal) (f : Fin n → EReal) : Fin n → EReal :=
  fun r => if BitVec.ofNat 32 r.val = BitVec.ofNat 32 (topN f) then z else f r

/-- Where the greatest element exceeds all the others, a round marks it and nothing else. -/
theorem step_of_strict (z : EReal) (hn : n ≤ 2 ^ 32) (f : Fin n → EReal) (p : Fin n) (h : ∀ r, r ≠ p → f r < f p) (r : Fin n) :
    step z f r = if r = p then z else f r := by
  unfold step
  rw [topN_of_strict f p h]
  have : BitVec.ofNat 32 r.val = BitVec.ofNat 32 p.val ↔ r = p := by
    rw [← BitVec.toNat_inj, BitVec.toNat_ofNat, BitVec.toNat_ofNat, Nat.mod_eq_of_lt (lt_of_lt_of_le r.isLt hn),
      Nat.mod_eq_of_lt (lt_of_lt_of_le p.isLt hn), Fin.ext_iff]
  simp only [this]

/-- The columns after `k` rounds, where `π` lists the positions in descending order and the first `K + 1` of them are strictly
    ordered: the first `k` are marked. -/
theorem steps_eq (z : EReal) (hn : n ≤ 2 ^ 32) (f : Fin n → EReal) (hz : ∀ r, z < f r) (π : Fin n → Fin n) (hπ : Function.Surjective π)
    (K : ℕ) (hK : K < n) (hanti : ∀ i j : Fin n, i < j → f (π j) ≤ f (π i))
    (hstrict : ∀ i j : Fin n, i.val < K → j.val = i.val + 1 → f (π j) < f (π i)) :
    ∀ k ≤ K, (step z)^[k] f = fun r => if ∃ j : Fin n, j.val < k ∧ π j = r then z else f r := by
  intro k
  induction k with
  | zero => intro _; funext r; simp
  | succ k ih =>
    intro hk
    rw [Function.iterate_succ_apply', ih (by omega)]
    have hlt : ∀ j : Fin n, k < j.val → f (π j) < f (π ⟨k, by omega⟩) := by
      intro j hj
      have h1 := hstrict ⟨k, by omega⟩ ⟨k + 1, by omega⟩ (show k < K by omega) rfl
      rcases Nat.eq_or_lt_of_le (show k + 1 ≤ j.val from hj) with e | e
      · rw [show j = ⟨k + 1, by omega⟩ from Fin.ext e.symm]; exact h1
      · exact lt_of_le_of_lt (hanti ⟨k + 1, by omega⟩ j e) h1
    have hinj : Function.Injective π := Finite.injective_iff_surjective.2 hπ
    have hpk : ¬ ∃ j : Fin n, j.val < k ∧ π j = π ⟨k, by omega⟩ := by
      rintro ⟨j, hj, e⟩
      have := congrArg Fin.val (hinj e)
      simp at this; omega
    funext r
    rw [step_of_strict z hn _ (π ⟨k, by omega⟩)]
    · by_cases hr : r = π ⟨k, by omega⟩
      · rw [if_pos hr, if_pos ⟨⟨k, by omega⟩, Nat.lt_succ_self k, hr.symm⟩]
      · rw [if_neg hr]
        congr 1
        apply propext
        constructor
        · rintro ⟨j, hj, e⟩; exact ⟨j, Nat.lt_succ_of_lt hj, e⟩
        · rintro ⟨j, hj, e⟩
          refine ⟨j, lt_of_le_of_ne (Nat.le_of_lt_succ hj) fun ej => hr ?_, e⟩
          rw [← e]; exact congrArg π (Fin.ext ej)
    · intro r hr
      rw [if_neg hpk]
      split
      · exact hz _
      · rename_i hno
        obtain ⟨j, rfl⟩ := hπ r
        refine hlt j (lt_of_le_of_ne (not_lt.1 fun hj => hno ⟨j, hj, rfl⟩) fun ej => hr ?_)
        exact congrArg π (Fin.ext ej.symm)

/-- Where the column is nonnegative, after `K` rounds exactly the first `K` positions in descending order are negative. -/
theorem steps_neg_iff (z : EReal) (hz0 : z < 0) (hn : n ≤ 2 ^ 32) (f : Fin n → EReal) (hf : ∀ r, 0 ≤ f r) (π : Fin n → Fin n)
    (hπ : Function.Surjective π) (K : ℕ) (hK : K < n) (hanti : ∀ i j : Fin n, i < j → f (π j) ≤ f (π i))
    (hstrict : ∀ i j : Fin n, i.val < K → j.val = i.val + 1 → f (π j) < f (π i)) (r : Fin n) :
    (step z)^[K] f r < 0 ↔ ∃ j : Fin n, j.val < K ∧ π j = r := by
  rw [steps_eq z hn f (fun r => lt_of_lt_of_le hz0 (hf r)) π hπ K hK hanti hstrict K le_rfl]
  dsimp only
  split
  · rename_i h; exact ⟨fun _ => h, fun _ => hz0⟩
  · rename_i h; exact ⟨fun h' => absurd h' (not_lt.2 (hf r)), fun h' => absurd h' h⟩

/-- The descending order of a column: the positions as a stable sort by "greater first" lists them. -/
def order (f : Fin n → EReal) : Fin n → Fin n :=
  sortedFrom fun k k' => (FloatOps.cmpfTotal (F := Ideal) (φ := .f32) .gt (f k) (f k') == 1#1)

/-- The descending order lists every position. -/
theorem order_surjective (f : Fin n → EReal) : Function.Surjective (order f) := sortedFrom_surjective _

/-- The comparison that sorts is the order of the extended reals. -/
theorem gt_iff (a b : EReal) : (FloatOps.cmpfTotal (F := Ideal) (φ := .f32) .gt a b == 1#1) = decide (b < a) := by
  show (BitVec.ofBool (decide (b < a)) == 1#1) = _
  by_cases h : b < a <;> simp [h]

/-- The values do not increase along the descending order. -/
theorem order_anti (f : Fin n → EReal) (i j : Fin n) (hij : i < j) : f (order f j) ≤ f (order f i) := by
  have := sortedFrom_noInversion (fun k k' => (FloatOps.cmpfTotal (F := Ideal) (φ := .f32) .gt (f k) (f k') == 1#1))
    (fun k k' => (FloatOps.cmpfTotal (F := Ideal) (φ := .f32) .gt (f k) (f k') == 1#1))
    (by intro a b h; rw [gt_iff] at h ⊢; simp only [decide_eq_true_eq, decide_eq_false_iff_not] at h ⊢; exact not_lt.2 h.le)
    (fun a b h => h)
    (by intro a b c h1 h2; rw [gt_iff] at *; simp only [decide_eq_false_iff_not, not_lt] at *; exact h1.trans h2) i j hij
  rw [gt_iff] at this
  exact not_lt.1 (of_decide_eq_false this)

end Cert.Assign
-- ==== Proof.RefMask.lean ====
/-
  The reference's mask, element by element: where no point lies inside a box, the first nine points in the descending order of the
  box's weights; elsewhere the points inside.
-/
module

public import proofs.«01_k».proof.Proof.RefWeight
public import proofs.«01_k».proof.Proof.Rounds
public import Idealize.ShloMosaic.Lib.Routing.OpsSet
public import Idealize.ShloMosaic.Lib.Routing.OpsPair
public import Idealize.ShloMosaic.Lib.StableHlo.Predicate

@[expose] public section

set_option maxRecDepth 16384

noncomputable section

namespace Cert.Assign

open Cert.ReferenceIdeal Cert.ReferenceIdeal.Gen Cert.ReferenceIdeal.Value
open Idealize.ShloMosaic Idealize.ShloMosaic.TcCoe

/-! ## The greatest of each row -/

/-- An index of a matrix moved along its second axis. -/
theorem along_ix2 {n k : Nat} (g : Fin n) (j j' : Fin k) : Shape.Idx.along (s := Sh n k) (ix2 g j) 1 j' = ix2 g j' := by
  funext a
  match a with
  | ⟨0, _⟩ => rfl
  | ⟨1, _⟩ => rfl

section topK
variable {n N K : Nat} (x : FVec Ideal (Sh n N) .f32) (h : (Sh n N).Slices (fun _ => 0) (Sh n K)) (g : Fin n) (j : Fin K) (j' : Fin N) (hj : j'.val = j.val)
include hj

/-- The slice from the start of each row reads the row itself. -/
theorem slice_at {α : Type} (y : (Sh n N).Idx → α) : extractStridedSlice (Sh n K) (fun _ => 0) y h (ix2 g j) = y (ix2 g j') := by
  refine congrArg y (funext fun a => Fin.ext ?_)
  match a with
  | ⟨0, _⟩ => exact Nat.zero_add _
  | ⟨1, _⟩ => exact (Nat.zero_add _).trans hj.symm

/-- The `j`-th greatest value of a row. -/
theorem topK_val : (Host.topK (Sh n K) 1 (FloatOps.cmpfTotal .gt) x h).1 (ix2 g j) = x (ix2 g (order (fun r => x (ix2 g r)) j')) := by
  have e : (fun k k' => (FloatOps.cmpfTotal (F := Ideal) (φ := .f32) .gt (x ((ix2 g j' : (Sh n N).Idx).along 1 k)) (x ((ix2 g j' : (Sh n N).Idx).along 1 k')) == 1#1))
      = fun k k' => (FloatOps.cmpfTotal (F := Ideal) (φ := .f32) .gt (x (ix2 g k)) (x (ix2 g k')) == 1#1) := by
    funext k k'; rw [along_ix2 g j' k, along_ix2 g j' k']
  unfold Host.topK
  dsimp only
  rw [slice_at h g j j' hj]
  unfold Host.sort2
  rw [dif_pos (show 1 < (Sh n N).rank from Nat.one_lt_two)]
  exact (congrArg (fun q : Fin N → Fin N → Bool => x ((ix2 g j' : (Sh n N).Idx).along 1 (sortedFrom q j'))) e).trans
    (congrArg x (along_ix2 g j' _))

/-- Its position in the row. -/
theorem topK_idx : (Host.topK (Sh n K) 1 (FloatOps.cmpfTotal .gt) x h).2 (ix2 g j) = BitVec.ofNat 32 (order (fun r => x (ix2 g r)) j').val := by
  have e : (fun k k' => (FloatOps.cmpfTotal (F := Ideal) (φ := .f32) .gt (x ((ix2 g j' : (Sh n N).Idx).along 1 k)) (x ((ix2 g j' : (Sh n N).Idx).along 1 k')) == 1#1))
      = fun k k' => (FloatOps.cmpfTotal (F := Ideal) (φ := .f32) .gt (x (ix2 g k)) (x (ix2 g k')) == 1#1) := by
    funext k k'; rw [along_ix2 g j' k, along_ix2 g j' k']
  unfold Host.topK
  dsimp only
  rw [slice_at h g j j' hj]
  unfold Host.sort2
  rw [dif_pos (show 1 < (Sh n N).rank from Nat.one_lt_two)]
  exact (congrArg (fun q : Fin N → Fin N → Bool => BitVec.ofNat 32 ((ix2 g j' : (Sh n N).Idx).along 1 (sortedFrom q j') 1).val) e).trans <|
    congrArg (fun i : (Sh n N).Idx => BitVec.ofNat 32 (i 1).val) (along_ix2 g j' _)
end topK

variable (W : Valuation τ sig (Elt Ideal))

/-- A box's weights in the reference. -/
def rcol (g : Fin 200) : Fin 5456 → EReal := fun R => res_main_v139 W (ix2 R g)

/-- The transposed weights, box by point. -/
theorem v144_apply (g : Fin 200) (R : Fin 5456) : @Eq EReal (res_main_v144 W (ix2 g R)) (rcol W g R) := by
  unfold res_main_v144 rcol; clean_types; pointwise

/-- The points the reference picks for a box. -/
theorem indices_apply (g : Fin 200) (j : Fin 9) (j' : Fin 5456) (hj : j'.val = j.val) :
    res_main_indices W (ix2 g j) = BitVec.ofNat 32 (order (rcol W g) j').val := by
  refine (topK_idx (res_main_v144 W) sliceFits_S200x5456_S200x9 g j j' hj).trans ?_
  rw [show (fun r => res_main_v144 W (ix2 g r)) = rcol W g from funext fun R => v144_apply W g R]

/-! ## The scatter of the marks -/

/-- The pairs of a box's number and a point's the marks are scattered at. -/
def pairs : IVec S200x9x2 32 :=
  concatenate S200x9x2 2 [⟨S200x9x1, (broadcastInDim S200x9x1 ![0, 1] bcast_S200x9_S200x9x1_0_1 (broadcastInDim S200x9 ![0, 1] bcast_S200x1_S200x9_0_1 (select (cmpi .slt (res_main_v147 W) (broadcastInDim S200x1 ![] bcast_S_S200x1 (constantI S_ 32 0#32))) (addi (res_main_v147 W) (broadcastInDim S200x1 ![] bcast_S_S200x1 (constantI S_ 32 200#32))) (res_main_v147 W))))⟩, ⟨S200x9x1, (broadcastInDim S200x9x1 ![0, 1] bcast_S200x9_S200x9x1_0_1 (select (cmpi .slt (res_main_indices W) (broadcastInDim S200x9 ![] bcast_S_S200x9 (constantI S_ 32 0#32))) (addi (res_main_indices W) (broadcastInDim S200x9 ![] bcast_S_S200x9 (constantI S_ 32 5456#32))) (res_main_indices W)))⟩] concatenates_S200x9x1_S200x9x1_S200x9x2_d2

/-- A pair's first word is the box's number. -/
theorem pairs_0 (g : Fin 200) (j : Fin 9) : pairs W (ix3 g j 0) = BitVec.ofNat 32 g.val := by
  have h : pairs W (ix3 g j 0) = Scalar.select (IntOp.cmpi .slt (res_main_v147 W (ix2 g 0)) 0#32) (IntOp.addi (res_main_v147 W (ix2 g 0)) 200#32) (res_main_v147 W (ix2 g 0)) := by
    unfold pairs; clean_types; pointwise
  have h' : res_main_v147 W (ix2 g 0) = BitVec.ofNat 32 g.val := by
    unfold res_main_v147; clean_types; pointwise
  rw [h, h']
  exact Routing.wrap_of_lt _ _ (by rw [BitVec.toNat_ofNat]; have := g.isLt; omega)

/-- Its second word is the picked point's. -/
theorem pairs_1 (g : Fin 200) (j : Fin 9) (j' : Fin 5456) (hj : j'.val = j.val) : pairs W (ix3 g j 1) = BitVec.ofNat 32 (order (rcol W g) j').val := by
  have h : pairs W (ix3 g j 1) = Scalar.select (IntOp.cmpi .slt (res_main_indices W (ix2 g j)) 0#32) (IntOp.addi (res_main_indices W (ix2 g j)) 5456#32) (res_main_indices W (ix2 g j)) := by
    unfold pairs; clean_types; pointwise
  rw [h, indices_apply W g j j' hj]
  exact Routing.wrap_of_lt _ _ (by rw [BitVec.toNat_ofNat]; have := (order (rcol W g) j').isLt; omega)

/-- A small number's word, read signed, is the number. -/
theorem toInt_small (a : Nat) (h : a < 5456) : (BitVec.ofNat 32 a).toInt = a := by
  have e : (BitVec.ofNat 32 a).toNat = a := by rw [BitVec.toNat_ofNat]; omega
  rw [BitVec.toInt_eq_toNat_of_lt (by omega), e]

/-- The scattered marks, box by point. -/
def picked : IVec S200x5456 1 :=
  Host.scatter scatter_S200x5456_S200x9x2_S200x9_n_01_01_2 (fun _ b => b) (broadcastInDim S200x5456 ![] bcast_S_S200x5456 (constantI S_ 1 0#1)) (pairs W) (broadcastInDim S200x9 ![] bcast_S_S200x9 (constantI S_ 1 1#1))

/-- Where a mark lands: at its own box and the point picked. -/
theorem picked_lands (g' : Fin 200) (j : Fin 9) (g : Fin 200) (R : Fin 5456) :
    scatter_S200x5456_S200x9x2_S200x9_n_01_01_2.resultIdx? (ix2 g' j) (pairs W) = some (ix2 g R)
      ↔ g' = g ∧ order (rcol W g') ⟨j.val, j.isLt.trans (by decide)⟩ = R := by
  rw [ix2_eq_valueIdx, ix2_eq_valueIdx]
  refine (Routing.scatter_lands2 scatter_S200x5456_S200x9x2_S200x9_n_01_01_2 rfl rfl rfl (pairs W) g' j g R).trans ?_
  rw [show pairs W (ValueIdx.ix3 g' j 0) = _ from pairs_0 W g' j,
    show pairs W (ValueIdx.ix3 g' j 1) = _ from pairs_1 W g' j ⟨j.val, j.isLt.trans (by decide)⟩ rfl,
    toInt_small _ (g'.isLt.trans (by decide)), toInt_small _ (Fin.isLt _)]
  exact and_congr (by rw [Int.natCast_inj, Fin.ext_iff]) (by rw [Int.natCast_inj, Fin.ext_iff])

/-- A point is picked for a box when it is among the first nine in the descending order of the box's weights. -/
theorem picked_apply (g : Fin 200) (R : Fin 5456) :
    picked W (ix2 g R) = 1#1 ↔ ∃ j : Fin 5456, j.val < 9 ∧ order (rcol W g) j = R := by
  constructor
  · intro h
    by_contra hn
    have hm : picked W (ix2 g R) = 0#1 := by
      refine (Routing.scatter_set_miss _ _ _ _ _ fun k hk => hn ?_).trans rfl
      obtain ⟨e, e'⟩ := (picked_lands W (k 0) (k 1) g R).1 (by rw [← eq_ix2 k]; exact hk)
      exact ⟨⟨(k 1).val, (k 1).isLt.trans (by decide)⟩, (k 1).isLt, by rw [← e]; exact e'⟩
    rw [hm] at h
    exact absurd h (by decide)
  · rintro ⟨j, hj, e⟩
    exact Routing.scatter_set_hit _ _ _ _ _ _ (fun _ _ => rfl) (ix2 g ⟨j.val, hj⟩) ((picked_lands W g ⟨j.val, hj⟩ g R).2 ⟨rfl, e⟩)

/-! ## The mask -/

/-- The number of points inside each box. -/
def inside : IVec S200 32 :=
  Host.reduce IntOp.addi (extui 32 (W (Proc.devRef .tc main_arg9)) natLt_1_32) (constantI S_ 32 0#32) reducesTo_S5456x200_S200_d0 h_S_

/-- The count of a box is zero exactly where no point is inside. -/
theorem inside_zero (g : Fin 200) : inside W (ix1 g) = 0#32 ↔ ∀ r : Fin 5456, (W (Proc.devRef .tc main_arg9) : IVec S5456x200 1) (ix2 r g) ≠ 1#1 := by
  have hc := StableHlo.Predicate.toNat_reduce_count_rows (n := 5456) (m := 200) (by decide) (W (Proc.devRef .tc main_arg9)) natLt_1_32
    reducesTo_S5456x200_S200_d0 h_S_ (ix1 g)
  have hij : ∀ r : Fin 5456, StableHlo.Predicate.ij r g = ix2 r g := fun r => (Routing.ij_eq_ix2 r g).trans (ix2_eq_valueIdx ..).symm
  rw [← BitVec.toNat_inj]
  refine (Eq.congr hc rfl).trans ?_
  rw [show (0#32).toNat = 0 from rfl, Finset.card_eq_zero, Finset.filter_eq_empty_iff]
  refine ⟨fun h r => ?_, fun h r _ => ?_⟩
  · have := h (Finset.mem_univ r)
    exact fun q => this ((congrArg _ (hij r)).trans q)
  · exact fun q => h r ((congrArg _ (hij r)).symm.trans q)

/-- The reference's mask. -/
def ref166 : IVec S5456x200 1 :=
  select (broadcastInDim S5456x200 ![0, 1] bcast_S1x200_S5456x200_0_1 (broadcastInDim S1x200 ![1] bcast_S200_S1x200_1 (cmpi .eq (inside W) (broadcastInDim S200 ![] bcast_S_S200 (constantI S_ 32 0#32))))) (transpose S5456x200 [1, 0] (picked W) transposes_S200x5456_S5456x200_1_0) (W (Proc.devRef .tc main_arg9))

open Classical in
/-- The mask of a point and box: among the first nine where no point is inside the box, else whether the point is inside. -/
theorem ref166_apply (g : Fin 200) (R : Fin 5456) :
    ref166 W (ix2 R g) = 1#1 ↔
      if ∀ r : Fin 5456, (W (Proc.devRef .tc main_arg9) : IVec S5456x200 1) (ix2 r g) ≠ 1#1 then ∃ j : Fin 5456, j.val < 9 ∧ order (rcol W g) j = R
      else (W (Proc.devRef .tc main_arg9) : IVec S5456x200 1) (ix2 R g) = 1#1 := by
  have h : ref166 W (ix2 R g) = Scalar.select (IntOp.cmpi .eq (inside W (ix1 g)) 0#32) (picked W (ix2 g R)) ((W (Proc.devRef .tc main_arg9) : IVec S5456x200 1) (ix2 R g)) := by
    unfold ref166; clean_types; pointwise
  rw [h]
  by_cases e : inside W (ix1 g) = 0#32
  · rw [if_pos ((inside_zero W g).1 e), ← picked_apply W g R]
    simp [Scalar.select, IntOp.cmpi, e]
  · have e' : (inside W (ix1 g) == 0#32) = false := beq_false_of_ne e
    rw [if_neg fun q => e ((inside_zero W g).2 q)]
    simp [Scalar.select, IntOp.cmpi, e']

/-- The reference's result weights. -/
def ref167 : FVec Ideal S5456x200 .f32 :=
  select (ref166 W) (res_main_v139 W) (broadcastInDim S5456x200 ![] bcast_S_S5456x200 (id (constant S_ .f32 0x00000000#32)))

open Classical in
/-- The result weight: the weight where the mask is set, else zero. -/
theorem ref167_apply (g : Fin 200) (R : Fin 5456) :
    @Eq EReal (ref167 W (ix2 R g)) (if ref166 W (ix2 R g) = 1#1 then rcol W g R else 0) := by
  have h : @Eq EReal (ref167 W (ix2 R g)) (Scalar.select (ref166 W (ix2 R g)) (res_main_v139 W (ix2 R g)) (0 : EReal)) := by
    have h0 : @Eq EReal (id (constant (F := Ideal) S_ .f32 0x00000000#32) ix0) 0 := Ideal.ofBits_zero_f32
    unfold ref167; clean_types; pointwise
    exact congrArg (Scalar.select _ _) h0
  rw [h]
  by_cases e : ref166 W (ix2 R g) = 1#1 <;> simp [Scalar.select, e, rcol]

end Cert.Assign
-- ==== Proof.PreFacts.lean ====
/-
  What the precondition says, box by box: the label is one of the eighty classes, and the ten greatest weights are strictly ordered.
-/
module

public import proofs.«01_k».proof.Proof.RefMask
public import proofs.«01_k».proof.Proof.Gen.Pre_no_tie
public import Idealize.ShloMosaic.Lib.ReduceAll

@[expose] public section

set_option maxRecDepth 16384

noncomputable section

namespace Cert.Assign

open Cert.ReferenceIdeal Cert.ReferenceIdeal.Gen Cert.ReferenceIdeal.Value
open Idealize.ShloMosaic Idealize.ShloMosaic.TcCoe

variable (W : Valuation τ sig (Elt Ideal))

/-- The ten greatest weights of each box. -/
def top10 : FVec Ideal (Sh 200 10) .f32 :=
  (Host.topK (Sh 200 10) 1 (FloatOps.cmpfTotal .gt) (res_main_v144 W) Cert.Pre_no_tie.Gen.sliceFits_S200x5456_S200x10).1

/-- Where each of the first nine exceeds the next. -/
def falls : IVec (Sh 200 9) 1 :=
  cmpf .ogt (extractStridedSlice (Sh 200 9) ![0, 0] (top10 W) Cert.Pre_no_tie.Gen.slices_S200x10_S200x9_0_0)
    (extractStridedSlice (Sh 200 9) ![0, 1] (top10 W) Cert.Pre_no_tie.Gen.slices_S200x10_S200x9_0_1)

/-- The precondition's predicate at the reference's arguments. -/
def preBits : IVec S200 1 :=
  andi (andi (cmpi .sge (W (Proc.devRef .tc main_arg8)) (broadcastInDim S200 ![] bcast_S_S200 (constantI S_ 32 0#32)))
      (cmpi .slt (W (Proc.devRef .tc main_arg8)) (broadcastInDim S200 ![] bcast_S_S200 (constantI S_ 32 80#32))))
    (Host.reduce IntOp.andi (falls W) (constantI S_ 1 1#1) Cert.Pre_no_tie.Gen.reducesTo_S200x9_S200_d1 h_S_)

/-- The precondition's program computes these bits. -/
theorem preBits_eq : Cert.Pre_no_tie.fn (F := Ideal) (W (Proc.devRef .tc main_arg0)) (W (Proc.devRef .tc main_arg1)) (W (Proc.devRef .tc main_arg2))
    (W (Proc.devRef .tc main_arg3)) (W (Proc.devRef .tc main_arg4)) (W (Proc.devRef .tc main_arg5)) (W (Proc.devRef .tc main_arg6))
    (W (Proc.devRef .tc main_arg7)) (W (Proc.devRef .tc main_arg8)) (W (Proc.devRef .tc main_arg9)) = preBits W := rfl

/-- A word at least zero and below eighty, both signed, is a class. -/
theorem label_range (x : BitVec 32) (h0 : IntOp.cmpi .sge x 0#32 = 1#1) (h8 : IntOp.cmpi .slt x 80#32 = 1#1) :
    ∃ lab : Fin 80, x = BitVec.ofNat 32 lab.val := by
  have a : 0 ≤ x.toInt := by
    by_contra hn
    simp [IntOp.cmpi, BitVec.sle, hn] at h0
  have b : x.toInt < 80 := by
    by_contra hn
    simp [IntOp.cmpi, BitVec.slt, hn] at h8
  have hx := BitVec.toInt_eq_toNat_cond x
  have hl := x.isLt
  refine ⟨⟨x.toNat, by split at hx <;> omega⟩, ?_⟩
  simp

/-- The precondition at a box: its label is one of the classes, and each of the first nine greatest weights exceeds the next. -/
theorem pre_split (h : preBits W = fun _ => 1#1) (g : Fin 200) :
    (∃ lab : Fin 80, (W (Proc.devRef .tc main_arg8) : IVec S200 32) (ix1 g) = BitVec.ofNat 32 lab.val) ∧ ∀ j : Fin 9, falls W (ix2 g j) = 1#1 := by
  have e := congrFun h (ix1 g)
  obtain ⟨e1, e2⟩ := IntOp.andi_eq_one.1 (show IntOp.andi _ _ = 1#1 from e)
  obtain ⟨e3, e4⟩ := IntOp.andi_eq_one.1 (show IntOp.andi _ _ = 1#1 from e1)
  refine ⟨?_, fun j => Host.reduce_andi_eq_one _ _ _ _ _ e2 (ix2 g j) (by funext a; match a with | ⟨0, _⟩ => rfl)⟩
  have e0 : IntOp.cmpi .sge ((W (Proc.devRef .tc main_arg8) : IVec S200 32) (ix1 g)) 0#32 = 1#1 := e3
  have e8 : IntOp.cmpi .slt ((W (Proc.devRef .tc main_arg8) : IVec S200 32) (ix1 g)) 80#32 = 1#1 := e4
  exact label_range _ e0 e8

/-- The ordered comparison, as the order of the extended reals. -/
theorem ogt_iff (a b : EReal) : FloatOps.cmpf (F := Ideal) (φ := .f32) .ogt a b = 1#1 ↔ b < a := by
  show BitVec.ofBool (decide (b < a)) = 1#1 ↔ _
  by_cases h : b < a <;> simp [h]

/-- The bit of a place is set when the next of the ten greatest is less. -/
theorem falls_apply (g : Fin 200) (j : Fin 9) : falls W (ix2 g j) = 1#1 ↔
    (top10 W (ix2 g ⟨j.val + 1, by omega⟩) : EReal) < top10 W (ix2 g ⟨j.val, by omega⟩) := by
  have h : falls W (ix2 g j) = FloatOps.cmpf (F := Ideal) .ogt (top10 W (ix2 g ⟨j.val, by omega⟩)) (top10 W (ix2 g ⟨j.val + 1, by omega⟩)) := by
    unfold falls; clean_types; pointwise
    simp only [Nat.add_comm 1]
  rw [h]
  exact ogt_iff _ _

/-- Under the precondition the ten greatest weights of a box are strictly ordered. -/
theorem strict (h : preBits W = fun _ => 1#1) (g : Fin 200) (i j : Fin 5456) (hi : i.val < 9) (hij : j.val = i.val + 1) :
    rcol W g (order (rcol W g) j) < rcol W g (order (rcol W g) i) := by
  have ht : ∀ (k : Fin 10) (k' : Fin 5456), k'.val = k.val → @Eq EReal (top10 W (ix2 g k)) (rcol W g (order (rcol W g) k')) := fun k k' hk => by
    refine (topK_val (res_main_v144 W) _ g k k' hk).trans ?_
    rw [show (fun r => res_main_v144 W (ix2 g r)) = rcol W g from funext fun R => v144_apply W g R]
    exact v144_apply W g _
  have := (falls_apply W g ⟨i.val, hi⟩).1 ((pre_split W h g).2 _)
  rwa [ht _ j hij, ht _ i rfl] at this

end Cert.Assign
-- ==== Proof.Block.lean ====
/-
  One block's weights, element by element: the weight of a point for the box of a column, from that column of the boxes and of the
  labels alone.
-/
module

public import proofs.«01_k».proof.Proof.Body
public import proofs.«01_k».proof.Proof.Scalar
public import proofs.«01_k».proof.Proof.Rows

@[expose] public section

set_option maxRecDepth 16384

noncomputable section

namespace Cert.Assign

open Cert.KernelIdeal Cert.KernelIdeal.Gen
open Idealize.ShloMosaic

/-- The reciprocal of the stride of the level that row `R` lies in. -/
def invOf (R : Fin 5456) : EReal :=
  if R.val < 4096 then Ideal.ofBits .f32 0x3E000000#32 else if R.val < 5120 then Ideal.ofBits .f32 0x3D800000#32
  else if R.val < 5376 then Ideal.ofBits .f32 0x3D000000#32 else if R.val < 5440 then Ideal.ofBits .f32 0x3C800000#32
  else Ideal.ofBits .f32 0x3C000000#32

/-- Row `k` of the table of means and sigmas, picked by a label through the sum over the classes. -/
def pick (X2 : Vec Ideal S4x80 .f32) (lab : BitVec 32) (k : Fin 4) : EReal :=
  ∑ x : Fin 80, (X2 (ix2 k x) : EReal) *
    (FloatOps.sitofp (F := Ideal) FTy.f32 (BitVec.setWidth 32 (IntOp.cmpi CmpIPredicate.eq (BitVec.ofNat 32 x.val) lab)) : EReal)

/-- The weight of point `R` for a box `b` of class `lab`. -/
def colWeight (X0 : Vec Ideal S5456x2 .f32) (X2 : Vec Ideal S4x80 .f32) (b : Fin 4 → EReal) (lab : BitVec 32) (R : Fin 5456) : EReal :=
  kw (invOf R) (X0 (ix2 R 0)) (X0 (ix2 R 1)) ((b 0 + b 2) * Ideal.ofBits .f32 0x3F000000#32) ((b 1 + b 3) * Ideal.ofBits .f32 0x3F000000#32)
    (pick X2 lab 0) (pick X2 lab 1) (nf (pick X2 lab 2)) (nf (pick X2 lab 3))

variable (X0 : Vec Ideal S5456x2 .f32) (X1 : Vec Ideal S4x128 .f32) (X2 : Vec Ideal S4x80 .f32) (X3 : Vec Ideal S1x128 .i32) (l : Fin 128)

/-- The kernel's horizontal centre of a lane's box: half the sum of its first and third coordinates. -/
theorem pay11_apply : k0_pay11 X1 (ix2 0 l) = ((X1 (ix2 0 l) : EReal) + X1 (ix2 2 l)) * Ideal.ofBits .f32 0x3F000000#32 := by
  pointwise [k0_pay11, k0_pay10]
/-- The vertical centre: half the sum of the second and fourth. -/
theorem pay12_apply : k0_pay12 X1 (ix2 0 l) = ((X1 (ix2 1 l) : EReal) + X1 (ix2 3 l)) * Ideal.ofBits .f32 0x3F000000#32 := by
  pointwise [k0_pay12, k0_pay10]
/-- A lane's horizontal mean, row 0 of the table picked by its label. -/
theorem pay14_apply : k0_pay14 X3 X2 (ix2 0 l) = pick X2 (X3 (ix2 0 l)) 0 := by
  pointwise [k0_pay14, k0_pay13, pick]
/-- Its vertical mean, row 1. -/
theorem pay15_apply : k0_pay15 X3 X2 (ix2 0 l) = pick X2 (X3 (ix2 0 l)) 1 := by
  pointwise [k0_pay15, k0_pay13, pick]
/-- The multiplier of its horizontal squared distance, from row 2. -/
theorem pay16_apply : k0_pay16 X3 X2 (ix2 0 l) = nf (pick X2 (X3 (ix2 0 l)) 2) := by
  pointwise [k0_pay16, k0_pay13, pick, nf]
/-- The multiplier of its vertical squared distance, from row 3. -/
theorem pay17_apply : k0_pay17 X3 X2 (ix2 0 l) = nf (pick X2 (X3 (ix2 0 l)) 3) := by
  pointwise [k0_pay17, k0_pay13, pick, nf]

section levels
variable (a b c d e f : FVec Ideal S1x128 .f32)

/-- The first level's weights at a row and lane. -/
theorem lev0_apply (r : Fin 4096) (R : Fin 5456) (hR : R.val = r.val) :
    k0_pay20 a b c d e f (k0_pay18 (View.ld X0 (Rect.unit (s := S5456x2) ![0, 0] S4096x2.size inb_S5456x2_S4096x2_0_0)))
      (k0_pay19 (View.ld X0 (Rect.unit (s := S5456x2) ![0, 0] S4096x2.size inb_S5456x2_S4096x2_0_0))) (ix2 r l)
    = kw (Ideal.ofBits .f32 0x3E000000#32) (X0 (ix2 R 0)) (X0 (ix2 R 1)) (a (ix2 0 l)) (b (ix2 0 l)) (c (ix2 0 l)) (d (ix2 0 l)) (e (ix2 0 l)) (f (ix2 0 l)) := by
  pointwise [k0_pay20, k0_pay18, k0_pay19, kw]
  simp only [← hR]
/-- The second level's. -/
theorem lev1_apply (r : Fin 1024) (R : Fin 5456) (hR : R.val = 4096 + r.val) :
    k0_pay21 a b c d e f (View.ld X0 (Rect.unit (s := S5456x2) ![4096, 0] S1024x2.size inb_S5456x2_S1024x2_4096_0)) (ix2 r l)
    = kw (Ideal.ofBits .f32 0x3D800000#32) (X0 (ix2 R 0)) (X0 (ix2 R 1)) (a (ix2 0 l)) (b (ix2 0 l)) (c (ix2 0 l)) (d (ix2 0 l)) (e (ix2 0 l)) (f (ix2 0 l)) := by
  pointwise [k0_pay21, kw]
  simp only [← hR]
/-- The third level's. -/
theorem lev2_apply (r : Fin 256) (R : Fin 5456) (hR : R.val = 5120 + r.val) :
    k0_pay22 a b c d e f (View.ld X0 (Rect.unit (s := S5456x2) ![5120, 0] S256x2.size inb_S5456x2_S256x2_5120_0)) (ix2 r l)
    = kw (Ideal.ofBits .f32 0x3D000000#32) (X0 (ix2 R 0)) (X0 (ix2 R 1)) (a (ix2 0 l)) (b (ix2 0 l)) (c (ix2 0 l)) (d (ix2 0 l)) (e (ix2 0 l)) (f (ix2 0 l)) := by
  pointwise [k0_pay22, kw]
  simp only [← hR]

variable (L0 : FVec Ideal S4096x128 .f32) (L1 : FVec Ideal S1024x128 .f32) (L2 : FVec Ideal S256x128 .f32)

/-- The levels one under the other, at a row of each. -/
theorem pay26_lev0 (p q : FVec Ideal S64x128 .f32) (P : Vec Ideal S16x2 .f32) (r : Fin 4096) (R : Fin 5456) (hR : R.val = r.val) :
    k0_pay26 a b c d e f L0 L1 L2 p q P (ix2 R l) = L0 (ix2 r l) := by
  unfold k0_pay26; exact cat0 _ _ _ _ _ _ R r l hR
/-- A row of the second level in the five levels' array. -/
theorem pay26_lev1 (p q : FVec Ideal S64x128 .f32) (P : Vec Ideal S16x2 .f32) (r : Fin 1024) (R : Fin 5456) (hR : R.val = 4096 + r.val) :
    k0_pay26 a b c d e f L0 L1 L2 p q P (ix2 R l) = L1 (ix2 r l) := by
  unfold k0_pay26; exact cat1 _ _ _ _ _ _ R r l hR
/-- A row of the third level. -/
theorem pay26_lev2 (p q : FVec Ideal S64x128 .f32) (P : Vec Ideal S16x2 .f32) (r : Fin 256) (R : Fin 5456) (hR : R.val = 5120 + r.val) :
    k0_pay26 a b c d e f L0 L1 L2 p q P (ix2 R l) = L2 (ix2 r l) := by
  unfold k0_pay26; exact cat2 _ _ _ _ _ _ R r l hR
/-- A row of the fourth level. -/
theorem pay26_lev3 (P : Vec Ideal S16x2 .f32) (r : Fin 64) (R : Fin 5456) (hR : R.val = 5376 + r.val) :
    k0_pay26 a b c d e f L0 L1 L2
      (k0_pay24 a c (View.ld X0 (Rect.unit (s := S5456x2) ![5376, 0] S64x2.size inb_S5456x2_S64x2_5376_0)))
      (k0_pay25 b d (View.ld X0 (Rect.unit (s := S5456x2) ![5376, 0] S64x2.size inb_S5456x2_S64x2_5376_0))) P (ix2 R l)
    = kw (Ideal.ofBits .f32 0x3C800000#32) (X0 (ix2 R 0)) (X0 (ix2 R 1)) (a (ix2 0 l)) (b (ix2 0 l)) (c (ix2 0 l)) (d (ix2 0 l)) (e (ix2 0 l)) (f (ix2 0 l)) := by
  unfold k0_pay26
  refine (cat3 _ _ _ _ _ _ R r l hR).trans ?_
  pointwise [k0_pay24, k0_pay25, k0_pay23, kw]
  simp only [← hR]
/-- A row of the fifth level. -/
theorem pay26_lev4 (p q : FVec Ideal S64x128 .f32) (r : Fin 16) (R : Fin 5456) (hR : R.val = 5440 + r.val) :
    k0_pay26 a b c d e f L0 L1 L2 p q
      (View.ld X0 (Rect.unit (s := S5456x2) ![5440, 0] S16x2.size inb_S5456x2_S16x2_5440_0)) (ix2 R l)
    = kw (Ideal.ofBits .f32 0x3C000000#32) (X0 (ix2 R 0)) (X0 (ix2 R 1)) (a (ix2 0 l)) (b (ix2 0 l)) (c (ix2 0 l)) (d (ix2 0 l)) (e (ix2 0 l)) (f (ix2 0 l)) := by
  unfold k0_pay26
  refine (cat4 _ _ _ _ _ _ R r l hR).trans ?_
  pointwise [kw]
  simp only [← hR]

end levels

/-- The first level's multiplier is 1/8. -/
theorem invOf_lev0 {R : Fin 5456} {r : Fin 4096} (h : R.val = r.val) : invOf R = Ideal.ofBits .f32 0x3E000000#32 := by
  rw [invOf, if_pos (by omega)]
/-- The second's is 1/16. -/
theorem invOf_lev1 {R : Fin 5456} {r : Fin 1024} (h : R.val = 4096 + r.val) : invOf R = Ideal.ofBits .f32 0x3D800000#32 := by
  rw [invOf, if_neg (by omega), if_pos (by omega)]
/-- The third's is 1/32. -/
theorem invOf_lev2 {R : Fin 5456} {r : Fin 256} (h : R.val = 5120 + r.val) : invOf R = Ideal.ofBits .f32 0x3D000000#32 := by
  rw [invOf, if_neg (by omega), if_neg (by omega), if_pos (by omega)]
/-- The fourth's is 1/64. -/
theorem invOf_lev3 {R : Fin 5456} {r : Fin 64} (h : R.val = 5376 + r.val) : invOf R = Ideal.ofBits .f32 0x3C800000#32 := by
  rw [invOf, if_neg (by omega), if_neg (by omega), if_neg (by omega), if_pos (by omega)]
/-- The fifth's is 1/128. -/
theorem invOf_lev4 {R : Fin 5456} {r : Fin 16} (h : R.val = 5440 + r.val) : invOf R = Ideal.ofBits .f32 0x3C000000#32 := by
  rw [invOf, if_neg (by omega), if_neg (by omega), if_neg (by omega), if_neg (by omega)]

/-- The block's weights at row `R` and lane `l`. -/
theorem blockW_apply (R : Fin 5456) :
    blockW X0 X1 X2 X3 (ix2 R l) = colWeight X0 X2 (fun k => X1 (ix2 k l)) (X3 (ix2 0 l)) R := by
  unfold colWeight
  rw [← pay11_apply, ← pay12_apply, ← pay14_apply, ← pay15_apply, ← pay16_apply, ← pay17_apply]
  unfold blockW
  revert R
  refine rows_cases (fun R r h => ?_) (fun R r h => ?_) (fun R r h => ?_) (fun R r h => ?_) (fun R r h => ?_)
  · rw [invOf_lev0 h]; exact (pay26_lev0 l _ _ _ _ _ _ _ _ _ _ _ _ r R h).trans (lev0_apply X0 l _ _ _ _ _ _ r R h)
  · rw [invOf_lev1 h]; exact (pay26_lev1 l _ _ _ _ _ _ _ _ _ _ _ _ r R h).trans (lev1_apply X0 l _ _ _ _ _ _ r R h)
  · rw [invOf_lev2 h]; exact (pay26_lev2 l _ _ _ _ _ _ _ _ _ _ _ _ r R h).trans (lev2_apply X0 l _ _ _ _ _ _ r R h)
  · rw [invOf_lev3 h]; exact pay26_lev3 X0 l _ _ _ _ _ _ _ _ _ _ r R h
  · rw [invOf_lev4 h]; exact pay26_lev4 X0 l _ _ _ _ _ _ _ _ _ _ _ r R h

end Cert.Assign
-- ==== Proof.Mask.lean ====
/-
  One block's outputs, element by element, in the lanes that are true columns: which points the block marks for a column.
-/
module

public import proofs.«01_k».proof.Proof.Block
public import proofs.«01_k».proof.Proof.Rounds

@[expose] public section

set_option maxRecDepth 16384

noncomputable section

open Classical

namespace Cert.Assign

open Cert.KernelIdeal Cert.KernelIdeal.Gen
open Idealize.ShloMosaic

/-- The mark written over a greatest element: minus one. -/
abbrev mk : EReal := Ideal.ofBits .f32 0xBF800000#32

/-- Is point `R` marked for a column with weights `w` and inside marks `x`?  Where no point is inside, the points that nine rounds
    of taking the greatest have marked; elsewhere the points inside. -/
def colMark (w : Fin 5456 → EReal) (x : Fin 5456 → BitVec 32) (R : Fin 5456) : Prop :=
  if ∀ r, x r = 0#32 then (step mk)^[9] w R < 0 else x R ≠ 0#32

/-- One round on the block. -/
def rnd (W : FVec Ideal S5456x128 .f32) : FVec Ideal S5456x128 .f32 :=
  select (cmpi .eq rowIota (broadcastTo S5456x128 (shapeCast S1x128 (reduceIndex .argMax 0 S128 W reduces_S5456x128_S128) shapeCasts_S128_S1x128) broadcasts_S1x128_S5456x128))
    (broadcast S5456x128 (Scalar.ofBits .f32 0xBF800000#32)) W

/-- The kernel's array before the ninth round is that of eight rounds one after the other. -/
theorem pay8_eq (W : FVec Ideal S5456x128 .f32) : k0_pay8 W = rnd (rnd (rnd (rnd (rnd (rnd (rnd (rnd W))))))) := rfl

/-- A select on the equality of two words, as an if. -/
theorem sel_eq {α : Type} (a b : BitVec 32) (x y : α) : Scalar.select (IntOp.cmpi .eq a b) x y = if a = b then x else y := by
  by_cases h : a = b
  · simp [Scalar.select, IntOp.cmpi, h]
  · have hb : (a == b) = false := by simpa using h
    simp [Scalar.select, IntOp.cmpi, h, hb]

/-- The row that the argmax finds in a lane. -/
theorem argmax_apply (W : FVec Ideal S5456x128 .f32) (l : Fin 128) :
    reduceIndex .argMax 0 S128 W reduces_S5456x128_S128 (ix1 l) = BitVec.ofNat 32 (topN fun r => W (ix2 r l)) :=
  reduceIndex_rows _ W l

/-- One round on the block is one step on each lane's column. -/
theorem rnd_apply (W : FVec Ideal S5456x128 .f32) (R : Fin 5456) (l : Fin 128) :
    rnd W (ix2 R l) = step mk (fun r => W (ix2 r l)) R := by
  unfold rnd step
  pointwise
  rw [argmax_apply, sel_eq]

/-- Eight rounds on the block are eight steps on each lane's column. -/
theorem pay8_apply (W : FVec Ideal S5456x128 .f32) (R : Fin 5456) (l : Fin 128) :
    k0_pay8 W (ix2 R l) = (step mk)^[8] (fun r => W (ix2 r l)) R := by
  have h : ∀ (V : FVec Ideal S5456x128 .f32), (fun r => rnd V (ix2 r l)) = step mk (fun r => V (ix2 r l)) := fun V => funext fun r => rnd_apply V r l
  rw [pay8_eq]
  show (fun r => rnd (rnd (rnd (rnd (rnd (rnd (rnd (rnd W))))))) (ix2 r l)) R = _
  rw [h, h, h, h, h, h, h, h]
  rfl

/-- The row that the ninth round takes. -/
theorem pay9_apply (W : FVec Ideal S5456x128 .f32) (R : Fin 5456) (l : Fin 128) :
    k0_pay9 W (ix2 R l) = BitVec.ofNat 32 (topN ((step mk)^[8] fun r => W (ix2 r l))) := by
  unfold k0_pay9
  pointwise
  rw [argmax_apply]
  congr 2
  funext r
  exact pay8_apply W r l

/-- A row's contribution to the count of points inside: one where it is inside, else zero. -/
theorem pay27_apply (X4 : Vec Ideal S5456x128 .i32) (R : Fin 5456) (l : Fin 128) :
    k0_pay27 (F := Ideal) X4 (ix2 R l) = if X4 (ix2 R l) = 0#32 then (0 : EReal) else 1 := by
  pointwise [k0_pay27]
  by_cases h : X4 (ix2 R l) = 0#32
  · simp [Scalar.select, IntOp.cmpi, h]
  · have hb : (X4 (ix2 R l) != 0#32) = true := by simpa using h
    simp [Scalar.select, IntOp.cmpi, h, hb]

/-- The count of a lane, as a sum. -/
theorem pay28_apply (X4 : Vec Ideal S5456x128 .i32) (l : Fin 128) :
    k0_pay28 (F := Ideal) X4 (ix2 0 l) = (∑ r : Fin 5456, if X4 (ix2 r l) = 0#32 then (0 : EReal) else 1) := by
  have : k0_pay28 (F := Ideal) X4 (ix2 0 l) = (∑ r : Fin 5456, (k0_pay27 (F := Ideal) X4 (ix2 r l) : EReal)) := by
    pointwise [k0_pay28]
  rw [this]
  exact Finset.sum_congr rfl fun r _ => pay27_apply X4 r l

/-- A count is zero exactly where nothing is counted. -/
theorem sum_zero_iff {n : Nat} (x : Fin n → BitVec 32) : (∑ r, if x r = 0#32 then (0 : EReal) else 1) = 0 ↔ ∀ r, x r = 0#32 := by
  constructor
  · intro h r
    by_contra hr
    have h1 := Finset.single_le_sum (f := fun r => if x r = 0#32 then (0 : EReal) else 1)
      (fun i _ => by split <;> simp) (Finset.mem_univ r)
    rw [h] at h1
    simp [hr] at h1
    exact absurd h1 (by norm_num)
  · intro h
    exact Finset.sum_eq_zero fun r _ => if_pos (h r)

/-- The and of a decided proposition's bit with a bit is set when both hold. -/
theorem andi_iff (p : Prop) [Decidable p] (b : BitVec 1) : IntOp.andi (BitVec.ofBool (decide p)) b = 1#1 ↔ p ∧ b = 1#1 := by
  by_cases h : p
  · simp only [h, decide_true, true_and]; revert b; decide
  · simp only [h, decide_false, false_and, iff_false]; revert b; decide

/-- The column's flag: a true column with no point inside. -/
theorem pay1_apply (i : grid0.Coords) (X4 : Vec Ideal S5456x128 .i32) (l : Fin 128) :
    k0_pay1 (F := Ideal) (k0_pay28 X4) laneIota (colBase i) (ix2 0 l) = 1#1 ↔ (∀ r, X4 (ix2 r l) = 0#32) ∧ 128 * (i 0).val + l.val < 200 := by
  have hi : (i 0).val < 2 := (i 0).isLt
  have hv : IntOp.cmpi .slt (BitVec.ofNat 32 l.val + BitVec.ofNat 32 (i 0).val * 128#32) 200#32 = 1#1 ↔ 128 * (i 0).val + l.val < 200 := by
    generalize (i 0).val = k at hi
    interval_cases k <;> revert l <;> decide +kernel
  rw [← sum_zero_iff fun r => X4 (ix2 r l), ← pay28_apply, ← hv]
  pointwise [k0_pay1, k0_pay29]
  exact andi_iff _ _

/-- The word of minus infinity. -/
theorem ofBits_ninf : Ideal.ofBits .f32 0xFF800000#32 = ⊥ := by simp [Ideal.ofBits, Ideal.ieee]

/-- A block that has a flagged column takes the branch of the rounds. -/
theorem need_of_flag (i : grid0.Coords) (X4 : Vec Ideal S5456x128 .i32) (l : Fin 128)
    (h : k0_pay1 (F := Ideal) (k0_pay28 X4) laneIota (colBase i) (ix2 0 l) = 1#1) : need (F := Ideal) i X4 = 1#1 := by
  unfold need k0_pay2
  pointwise
  refine congrArg BitVec.ofBool (decide_eq_true ?_)
  rw [Finset.lt_fold_max]
  exact Or.inr ⟨⟨0, l⟩, Finset.mem_univ _, by rw [h]; exact zero_lt_one⟩

/-- The marks as floats, where the block takes the branch of the rounds, at a true column. -/
theorem pay3_apply (i : grid0.Coords) (W : FVec Ideal S5456x128 .f32) (X4 : Vec Ideal S5456x128 .i32) (R : Fin 5456) (l : Fin 128)
    (hl : 128 * (i 0).val + l.val < 200) :
    (k0_pay3 (F := Ideal) (k0_pay27 X4) (k0_pay28 X4) laneIota (colBase i) rowIota (k0_pay8 W) (k0_pay9 W) (ix2 R l) : EReal)
      = if colMark (fun r => W (ix2 r l)) (fun r => X4 (ix2 r l)) R then 1 else 0 := by
  have h3 : k0_pay3 (F := Ideal) (k0_pay27 X4) (k0_pay28 X4) laneIota (colBase i) rowIota (k0_pay8 W) (k0_pay9 W) (ix2 R l)
      = Scalar.select (k0_pay1 (F := Ideal) (k0_pay28 X4) laneIota (colBase i) (ix2 0 l))
          (if (step mk)^[9] (fun r => W (ix2 r l)) R < 0 then (1 : EReal) else 0) (if X4 (ix2 R l) = 0#32 then (0 : EReal) else 1) := by
    rw [Function.iterate_succ_apply', ← pay27_apply, step, ← pay9_apply W R l, ← pay8_apply, ← sel_eq]
    pointwise [k0_pay3]
  rw [h3]
  by_cases hx : ∀ r, X4 (ix2 r l) = 0#32
  · rw [(pay1_apply i X4 l).2 ⟨hx, hl⟩]
    unfold colMark
    rw [if_pos hx]
    by_cases hs : (step mk)^[9] (fun r => W (ix2 r l)) R < 0 <;> simp [Scalar.select, hs]
  · have hb : k0_pay1 (F := Ideal) (k0_pay28 X4) laneIota (colBase i) (ix2 0 l) = 0#1 :=
      (BitVec.eq_zero_or_eq_one _).resolve_right fun e => hx ((pay1_apply i X4 l).1 e).1
    rw [hb]
    unfold colMark
    rw [if_neg hx]
    show (if X4 (ix2 R l) = 0#32 then (0 : EReal) else 1) = _
    by_cases h : X4 (ix2 R l) = 0#32 <;> simp [h]

/-- The plain marks as floats agree where the block does not take that branch. -/
theorem pay27_mark (i : grid0.Coords) (W : FVec Ideal S5456x128 .f32) (X4 : Vec Ideal S5456x128 .i32) (R : Fin 5456) (l : Fin 128)
    (hl : 128 * (i 0).val + l.val < 200) (hn : ¬ need (F := Ideal) i X4 = 1#1) :
    (k0_pay27 (F := Ideal) X4 (ix2 R l) : EReal) = if colMark (fun r => W (ix2 r l)) (fun r => X4 (ix2 r l)) R then 1 else 0 := by
  have hx : ¬ ∀ r, X4 (ix2 r l) = 0#32 := fun hx => hn (need_of_flag i X4 l ((pay1_apply i X4 l).2 ⟨hx, hl⟩))
  rw [pay27_apply]
  unfold colMark
  rw [if_neg hx]
  by_cases h : X4 (ix2 R l) = 0#32 <;> simp [h]

/-- The weights a block leaves, at a true column. -/
theorem outW_apply (i : grid0.Coords) (W : FVec Ideal S5456x128 .f32) (X4 : Vec Ideal S5456x128 .i32) (R : Fin 5456) (l : Fin 128)
    (hl : 128 * (i 0).val + l.val < 200) :
    (outW (F := Ideal) i W X4 (ix2 R l) : EReal) = if colMark (fun r => W (ix2 r l)) (fun r => X4 (ix2 r l)) R then (W (ix2 R l) : EReal) else 0 := by
  have key : (outW (F := Ideal) i W X4 (ix2 R l) : EReal)
      = (W (ix2 R l) : EReal) * if colMark (fun r => W (ix2 r l)) (fun r => X4 (ix2 r l)) R then (1 : EReal) else 0 := by
    unfold outW
    split
    · rw [← pay3_apply i W X4 R l hl]; rfl
    · rename_i hn
      rw [← pay27_mark i W X4 R l hl hn]; rfl
  rw [key, mul_ite, mul_one, mul_zero]

/-- One or zero exceeds a half exactly where it is one. -/
theorem half_lt (c : Prop) [Decidable c] :
    BitVec.setWidth 32 (BitVec.ofBool (decide (Ideal.ofBits .f32 0x3F000000#32 < if c then (1 : EReal) else 0))) = if c then 1#32 else 0#32 := by
  have h0 : ¬ ((1 / 2 : ℝ) : EReal) < 0 := not_lt.2 (by exact_mod_cast (by norm_num : (0 : ℝ) ≤ 1 / 2))
  have h1 : ((1 / 2 : ℝ) : EReal) < 1 := by exact_mod_cast (by norm_num : (1 / 2 : ℝ) < 1)
  rw [ofBits_half]
  by_cases h : c
  · rw [if_pos h, if_pos h, decide_eq_true h1]; rfl
  · rw [if_neg h, if_neg h, decide_eq_false h0]; rfl

/-- The marks a block leaves, at a true column. -/
theorem outM_apply (i : grid0.Coords) (W : FVec Ideal S5456x128 .f32) (X4 : Vec Ideal S5456x128 .i32) (R : Fin 5456) (l : Fin 128)
    (hl : 128 * (i 0).val + l.val < 200) :
    outM (F := Ideal) i W X4 (ix2 R l) = if colMark (fun r => W (ix2 r l)) (fun r => X4 (ix2 r l)) R then 1#32 else 0#32 := by
  rw [← half_lt]
  unfold outM
  split
  · rw [← pay3_apply i W X4 R l hl];
    pointwise [k0_pay4]
  · rename_i hn
    rw [← pay27_mark i W X4 R l hl hn]
    pointwise [k0_pay6]

end Cert.Assign
-- ==== Proof.Cols.lean ====
/-
  The windows' blocks at a grid point, element by element: lane `l` of point `t`'s block is column `128 t + l` of the array where
  the array has such a column, whatever the buffer holds past the array's end.
-/
module

public import proofs.«01_k».proof.Proof.Setup
public import proofs.«01_k».proof.Proof.Mask

@[expose] public section

set_option maxRecDepth 16384

noncomputable section

namespace Cert.Assign

open Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ) (c : Dev nD)

/-- The grid is one axis of two points: a point's coordinate is its number. -/
theorem coord_val (t : Fin cfg0.N) : ((grid0.coords t) 0).val = t.val := by
  rcases fin_N0 t with rfl | rfl <;> decide +kernel

/-- What a fetched buffer holds at an element inside the array: the array's element at the block's offset plus it. -/
theorem fill_read {G : Pipeline.Grid} (w : Window sig G) (t : Fin G.N) (d : w.block.Idx → Elt Ideal w.elt) (f : w.arr.view.ty.Contents (Elt Ideal))
    (J : w.block.Idx) (k : w.shape.Idx) (hJ : ∀ a, (J a).val < w.xsize (G.coords t) a)
    (hk : ∀ a, (k a).val = w.kind.off (w.index t a) (w.size a) + (J a).val) :
    w.fill (G.coords t) d ((w.blk t).view.read (Elt Ideal) f) J = w.arr.view.read (Elt Ideal) f k := by
  refine (dif_pos ((w.moved_iff _ _).mpr hJ)).trans ?_
  show w.arr.view.read (Elt Ideal) f ((w.rect t).emb _) = _
  congr 1
  funext a
  apply Fin.ext
  rw [Rect.emb_apply, hk a]
  show w.kind.off (w.index t a) (w.size a) + 1 * (J a).val = w.kind.off (w.index t a) (w.size a) + (J a).val
  rw [Nat.one_mul]

/-- The part of a buffer that is written back is a block of given contents, when it is so element by element. -/
theorem cut_read {G : Pipeline.Grid} (w : Window sig G) (t : Fin G.N) (X : w.block.Idx → Elt Ideal w.elt) (f : w.arr.view.ty.Contents (Elt Ideal))
    (h : ∀ (J : w.block.Idx) (k : w.shape.Idx), (∀ a, (J a).val < w.xsize (G.coords t) a) →
      (∀ a, (k a).val = w.kind.off (w.index t a) (w.size a) + (J a).val) → X J = w.arr.view.read (Elt Ideal) f k) :
    w.cut (G.coords t) X = (w.blk t).view.read (Elt Ideal) f := by
  funext j
  refine h (w.xinj (G.coords t) j) ((w.rect t).emb j) (fun a => (j a).isLt) fun a => ?_
  rw [Rect.emb_apply]
  show w.kind.off (w.index t a) (w.size a) + 1 * (j a).val = w.kind.off (w.index t a) (w.size a) + (j a).val
  rw [Nat.one_mul]

/-- What holds of both axes holds of all of two. -/
theorem fin2_all {P : Fin 2 → Prop} (h0 : P 0) (h1 : P 1) : ∀ a, P a := fun a => by
  match a with
  | ⟨0, _⟩ => exact h0
  | ⟨1, _⟩ => exact h1

/-- The boxes' buffer at a true column. -/
theorem in1_apply (t : Fin cfg0.N) (d : Vec Ideal S4x128 .f32) (k : Fin 4) (l : Fin 128) (g : Fin 200) (hg : g.val = 128 * t.val + l.val) :
    in1 m c t d (ix2 k l) = V m c main_call0_v1 (ix2 k g) := by
  have e0 : ∀ t : Fin cfg0.N, win0_1.index t 0 * win0_1.size 0 = 0 ∧ win0_1.xsize (grid0.coords t) 0 = 4 := by decide +kernel
  have e1 : ∀ t : Fin cfg0.N, win0_1.index t 1 * win0_1.size 1 = 128 * t.val ∧ win0_1.xsize (grid0.coords t) 1 = min 128 (200 - 128 * t.val) := by decide +kernel
  refine fill_read win0_1 t d (V m c main_call0_v1) (ix2 k l) (ix2 k g) (fin2_all ?_ ?_) (fin2_all ?_ ?_)
  · rw [(e0 t).2]; exact k.isLt
  · rw [(e1 t).2]; show l.val < _; omega
  · refine Eq.trans ?_ (congrArg (· + k.val) (e0 t).1.symm); exact (Nat.zero_add _).symm
  · exact hg.trans (congrArg (· + l.val) (e1 t).1.symm)

/-- The labels' buffer at a true column. -/
theorem in3_apply (t : Fin cfg0.N) (d : Vec Ideal S1x128 .i32) (l : Fin 128) (g : Fin 200) (hg : g.val = 128 * t.val + l.val) :
    in3 m c t d (ix2 0 l) = V m c main_call0_v5 (ix2 0 g) := by
  have e0 : ∀ t : Fin cfg0.N, win0_3.index t 0 * win0_3.size 0 = 0 ∧ win0_3.xsize (grid0.coords t) 0 = 1 := by decide +kernel
  have e1 : ∀ t : Fin cfg0.N, win0_3.index t 1 * win0_3.size 1 = 128 * t.val ∧ win0_3.xsize (grid0.coords t) 1 = min 128 (200 - 128 * t.val) := by decide +kernel
  refine fill_read win0_3 t d (V m c main_call0_v5) (ix2 0 l) (ix2 0 g) (fin2_all ?_ ?_) (fin2_all ?_ ?_)
  · rw [(e0 t).2]; exact Nat.one_pos
  · rw [(e1 t).2]; show l.val < _; omega
  · exact (congrArg (· + 0) (e0 t).1.symm)
  · exact hg.trans (congrArg (· + l.val) (e1 t).1.symm)

/-- The inside marks' buffer at a true column. -/
theorem in4_apply (t : Fin cfg0.N) (d : Vec Ideal S5456x128 .i32) (R : Fin 5456) (l : Fin 128) (g : Fin 200) (hg : g.val = 128 * t.val + l.val) :
    in4 m c t d (ix2 R l) = V m c main_call0_v6 (ix2 R g) := by
  have e0 : ∀ t : Fin cfg0.N, win0_4.index t 0 * win0_4.size 0 = 0 ∧ win0_4.xsize (grid0.coords t) 0 = 5456 := by decide +kernel
  have e1 : ∀ t : Fin cfg0.N, win0_4.index t 1 * win0_4.size 1 = 128 * t.val ∧ win0_4.xsize (grid0.coords t) 1 = min 128 (200 - 128 * t.val) := by decide +kernel
  refine fill_read win0_4 t d (V m c main_call0_v6) (ix2 R l) (ix2 R g) (fin2_all ?_ ?_) (fin2_all ?_ ?_)
  · rw [(e0 t).2]; exact R.isLt
  · rw [(e1 t).2]; show l.val < _; omega
  · refine Eq.trans ?_ (congrArg (· + R.val) (e0 t).1.symm); exact (Nat.zero_add _).symm
  · exact hg.trans (congrArg (· + l.val) (e1 t).1.symm)

/-- The points' block is all the points. -/
theorem iblk0_eq (t : Fin cfg0.N) : (iblk m c 0 t : Vec Ideal S5456x2 .f32) = V m c main_call0_v0 := by
  have e : ∀ (t : Fin cfg0.N) (a : Fin 2), win0_0.index t a * win0_0.size a = 0 := by decide +kernel
  funext j
  show V m c main_call0_v0 ((win0_0.rect t).emb _) = _
  congr 1
  funext a
  apply Fin.ext
  rw [Rect.emb_apply]
  show win0_0.index t a * win0_0.size a + 1 * (j a).val = (j a).val
  rw [e t a]; omega

/-- The table's block is all the table. -/
theorem iblk2_eq (t : Fin cfg0.N) : (iblk m c 2 t : Vec Ideal S4x80 .f32) = V m c main_call0_v4 := by
  have e : ∀ (t : Fin cfg0.N) (a : Fin 2), win0_2.index t a * win0_2.size a = 0 := by decide +kernel
  funext j
  show V m c main_call0_v4 ((win0_2.rect t).emb _) = _
  congr 1
  funext a
  apply Fin.ext
  rw [Rect.emb_apply]
  show win0_2.index t a * win0_2.size a + 1 * (j a).val = (j a).val
  rw [e t a]; omega

/-- The weight of point `R` for box `g`, from the arrays as the region finds them. -/
def wcol (g : Fin 200) (R : Fin 5456) : EReal :=
  colWeight (V m c main_call0_v0) (V m c main_call0_v4) (fun k => V m c main_call0_v1 (ix2 k g)) (V m c main_call0_v5 (ix2 0 g)) R

/-- Is point `R` marked for box `g`? -/
def mcol (g : Fin 200) (R : Fin 5456) : Prop := colMark (wcol m c g) (fun r => V m c main_call0_v6 (ix2 r g)) R

open Classical in
/-- The weights the region leaves: each marked point's weight, zero elsewhere. -/
def finW : FVec Ideal S5456x200 .f32 := fun j => if mcol m c (j 1) (j 0) then wcol m c (j 1) (j 0) else (0 : EReal)

open Classical in
/-- The marks the region leaves, as words. -/
def finM : IVec S5456x200 32 := fun j => if mcol m c (j 1) (j 0) then 1#32 else 0#32

variable (t : Fin cfg0.N) (d1 : Vec Ideal S4x128 .f32) (d3 : Vec Ideal S1x128 .i32) (d4 : Vec Ideal S5456x128 .i32)

/-- The block's weights at point `t`. -/
abbrev wblk : FVec Ideal S5456x128 .f32 := blockW (iblk m c 0 t) (in1 m c t d1) (iblk m c 2 t) (in3 m c t d3)

/-- A block's weights at a lane that is a column of the array: that column's weights. -/
theorem wblk_apply (R : Fin 5456) (l : Fin 128) (g : Fin 200) (hg : g.val = 128 * t.val + l.val) :
    wblk m c t d1 d3 (ix2 R l) = wcol m c g R := by
  rw [wblk, blockW_apply, iblk0_eq, iblk2_eq, in3_apply m c t d3 l g hg]
  unfold wcol
  congr 1
  funext k
  exact in1_apply m c t d1 k l g hg

/-- A block's marks at such a lane: that column's marks. -/
theorem mark_apply (R : Fin 5456) (l : Fin 128) (g : Fin 200) (hg : g.val = 128 * t.val + l.val) :
    colMark (fun r => wblk m c t d1 d3 (ix2 r l)) (fun r => in4 m c t d4 (ix2 r l)) R ↔ mcol m c g R := by
  unfold mcol
  rw [show (fun r => wblk m c t d1 d3 (ix2 r l)) = wcol m c g from funext fun r => wblk_apply m c t d1 d3 r l g hg,
    show (fun r => in4 m c t d4 (ix2 r l)) = fun r => V m c main_call0_v6 (ix2 r g) from funext fun r => in4_apply m c t d4 r l g hg]

open Classical in
/-- What the body leaves in the weights' buffer at a true column. -/
theorem outW_col (R : Fin 5456) (l : Fin 128) (g : Fin 200) (hg : g.val = 128 * t.val + l.val) :
    outW (F := Ideal) (grid0.coords t) (wblk m c t d1 d3) (in4 m c t d4) (ix2 R l) = finW m c (ix2 R g) := by
  refine (outW_apply (grid0.coords t) (wblk m c t d1 d3) (in4 m c t d4) R l (by rw [coord_val]; omega)).trans ?_
  rw [wblk_apply m c t d1 d3 R l g hg, if_congr (mark_apply m c t d1 d3 d4 R l g hg) rfl rfl]
  rfl

/-- The part of the block's weights that is written back is that block of the weights the region leaves. -/
theorem cut_outW : win0_5.cut (grid0.coords t) (outW (F := Ideal) (grid0.coords t) (wblk m c t d1 d3) (in4 m c t d4))
    = (win0_5.blk t).view.read (Elt Ideal) (finW m c) := by
  have e0 : ∀ t : Fin cfg0.N, win0_5.index t 0 * win0_5.size 0 = 0 := by decide +kernel
  have e1 : ∀ t : Fin cfg0.N, win0_5.index t 1 * win0_5.size 1 = 128 * t.val := by decide +kernel
  refine cut_read win0_5 t _ (finW m c) fun J k _ hk => ?_
  have h0 : (k 0).val = (J 0).val := (hk 0).trans ((congrArg (· + (J 0).val) (e0 t)).trans (Nat.zero_add _))
  have h1 : (k 1).val = 128 * t.val + (J 1).val := (hk 1).trans (congrArg (· + (J 1).val) (e1 t))
  refine (congrArg _ (eq_ix2 J)).trans ((outW_col m c t d1 d3 d4 (J 0) (J 1) (k 1) h1).trans (congrArg (finW m c) ?_))
  exact funext (fin2_all (Fin.ext h0.symm) rfl)

open Classical in
/-- The same for the marks' buffer. -/
theorem outM_col (R : Fin 5456) (l : Fin 128) (g : Fin 200) (hg : g.val = 128 * t.val + l.val) :
    outM (F := Ideal) (grid0.coords t) (wblk m c t d1 d3) (in4 m c t d4) (ix2 R l) = finM m c (ix2 R g) := by
  refine (outM_apply (grid0.coords t) (wblk m c t d1 d3) (in4 m c t d4) R l (by rw [coord_val]; omega)).trans ?_
  rw [if_congr (mark_apply m c t d1 d3 d4 R l g hg) rfl rfl]
  rfl

/-- The same for the marks. -/
theorem cut_outM : win0_6.cut (grid0.coords t) (outM (F := Ideal) (grid0.coords t) (wblk m c t d1 d3) (in4 m c t d4))
    = (win0_6.blk t).view.read (Elt Ideal) (finM m c) := by
  have e0 : ∀ t : Fin cfg0.N, win0_6.index t 0 * win0_6.size 0 = 0 := by decide +kernel
  have e1 : ∀ t : Fin cfg0.N, win0_6.index t 1 * win0_6.size 1 = 128 * t.val := by decide +kernel
  refine cut_read win0_6 t _ (finM m c) fun J k _ hk => ?_
  have h0 : (k 0).val = (J 0).val := (hk 0).trans ((congrArg (· + (J 0).val) (e0 t)).trans (Nat.zero_add _))
  have h1 : (k 1).val = 128 * t.val + (J 1).val := (hk 1).trans (congrArg (· + (J 1).val) (e1 t))
  refine (congrArg _ (eq_ix2 J)).trans ((outM_col m c t d1 d3 d4 (J 0) (J 1) (k 1) h1).trans (congrArg (finM m c) ?_))
  exact funext (fin2_all (Fin.ext h0.symm) rfl)

end Cert.Assign
-- ==== Proof.Run.lean ====
/-
  The run of the kernel at the ideal reading with what its two results hold: every weakly fair execution ends, the two arrays the
  region writes hold `finW` and `finM`, the mask is `finM` compared with zero, and the arguments are unchanged.
-/
module

public import proofs.«01_k».proof.Proof.Cols
public import Idealize.ShloMosaic.Lib.StableHlo.RunRead

@[expose] public section

set_option maxRecDepth 16384

noncomputable section

namespace Cert.Assign

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The boxes' buffer past the array's end, for the stated contents: zero. -/
abbrev z1 : Vec Ideal S4x128 .f32 := fun _ => (0 : EReal)
/-- The labels' buffer likewise. -/
abbrev z3 : Vec Ideal S1x128 .i32 := fun _ => 0#32
/-- The inside marks' buffer likewise. -/
abbrev z4 : Vec Ideal S5456x128 .i32 := fun _ => 0#32

/-- What the weights' buffer is stated to hold after the body. -/
abbrev val5 : Dev nD → Fin cfg0.N → FVec Ideal S5456x128 .f32 := fun c t => outW (grid0.coords t) (wblk m c t z1 z3) (in4 m c t z4)
/-- What the marks' buffer is stated to hold after the body. -/
abbrev val6 : Dev nD → Fin cfg0.N → IVec S5456x128 32 := fun c t => outM (F := Ideal) (grid0.coords t) (wblk m c t z1 z3) (in4 m c t z4)

/-- An output's buffer handed back: what it holds agrees with the stated contents on the part that is written back. -/
theorem leave_out (w : Fin cfg0.W) (c : Dev nD) (t : Fin cfg0.N) (s : Memref sig .tc (.core (cfg0.win w).stageSpace) (cfg0.win w).block (cfg0.win w).elt)
    (X Y : (cfg0.win w).block.Idx → Elt Ideal (cfg0.win w).elt)
    (h : (cfg0.win w).cut (cfg0.grid.coords t) X = (cfg0.win w).cut (cfg0.grid.coords t) Y) :
    (owns (c : Thread nD τ) s fullShare X : sProp 𝕄)
      ⊢ iprop(∃ d, owns (c : Thread nD τ) s fullShare ((cfg0.win w).fill (cfg0.grid.coords t) d ((cfg0.win w).cut (cfg0.grid.coords t) Y))) := by
  iintro H; iexists X; rw [(cfg0.win w).fill_congr_cut _ h]; iexact H

/-- What is written back of the weights' window. -/
theorem cut_after_5 (c : Dev nD) (t : Fin cfg0.N) : (cfg0.win 5).cut (cfg0.grid.coords t) ((dats m (val5 m) (val6 m) 0 c).after 5 t)
    = ((cfg0.win 5).blk t).view.read (Elt Ideal) (finW m c) := by
  dsimp only [dats]; exact cut_outW m c t z1 z3 z4
/-- What is written back of the marks' window. -/
theorem cut_after_6 (c : Dev nD) (t : Fin cfg0.N) : (cfg0.win 6).cut (cfg0.grid.coords t) ((dats m (val5 m) (val6 m) 0 c).after 6 t)
    = ((cfg0.win 6).blk t).view.read (Elt Ideal) (finM m c) := by
  dsimp only [dats]; exact cut_outM m c t z1 z3 z4

/-- The body's obligation: the inputs' buffers keep their blocks, the outputs' hold the weights and the marks of the block. -/
theorem body_exact (c : Dev nD) : BodyObligationLoose (dats m (val5 m) (val6 m) 0 c) (defs₀ (F := Ideal)) Variants.none () Set.univ := fun t => by
  rw [bigSep_W0, bigSep_W0, defs₀_row]
  simp only
  rw [show (dats m (val5 m) (val6 m) 0 c).Φ t.succ = (dats m (val5 m) (val6 m) 0 c).Φ t.castSucc from rfl,
    show (dats m (val5 m) (val6 m) 0 c).owesAt () t.succ = (dats m (val5 m) (val6 m) 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before_0, before_1, before_2, before_3, before_4]
  unfold bodyAt0
  iapply (sound_kernel c Set.univ (grid0.coords t) _ _ _ _ _ _ _ _ _ _ _ _ _ _ (iblk m c 0 t) (in1 m c t d1) (iblk m c 2 t) (in3 m c t d3) (in4 m c t d4) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]
  · iapply (leave_clipped 1 c t _ d1 _ _ (cut_after_1 m (val5 m) (val6 m) c t)); iexact H1
  isplitl [H2]; · iexact H2
  isplitl [H3]
  · iapply (leave_clipped 3 c t _ d3 _ _ (cut_after_3 m (val5 m) (val6 m) c t)); iexact H3
  isplitl [H4]
  · iapply (leave_clipped 4 c t _ d4 _ _ (cut_after_4 m (val5 m) (val6 m) c t)); iexact H4
  isplitl [H5]
  · iapply (leave_out 5 c t _ _ _ ((cut_outW m c t d1 d3 d4).trans (cut_after_5 m c t).symm)); iexact H5
  · iapply (leave_out 6 c t _ _ _ ((cut_outM m c t d1 d3 d4).trans (cut_after_6 m c t).symm)); iexact H6

/-! ## The arrays after the region -/

/-- Every element of a result lies in one of the two blocks. -/
theorem cover5 (i : S5456x200.Idx) : ∃ t : Fin cfg0.N, i ∈ (win0_5.blk t).view.setOn Finset.univ := by
  have e0 : ∀ t : Fin cfg0.N, win0_5.index t 0 * win0_5.size 0 = 0 ∧ win0_5.xsize (grid0.coords t) 0 = 5456 := by decide +kernel
  have e1 : ∀ t : Fin cfg0.N, win0_5.index t 1 * win0_5.size 1 = 128 * t.val ∧ win0_5.xsize (grid0.coords t) 1 = min 128 (200 - 128 * t.val) := by decide +kernel
  have h0 : (i 0).val < 5456 := (i 0).isLt
  have h1 : (i 1).val < 200 := (i 1).isLt
  have hN : cfg0.N = 2 := by decide
  obtain ⟨t, ht⟩ : ∃ t : Fin cfg0.N, t.val = (i 1).val / 128 := ⟨⟨(i 1).val / 128, by rw [hN]; omega⟩, rfl⟩
  refine ⟨t, ?_⟩
  rw [View.setOn_univ]
  show i ∈ ((View.whole main_v0_0).slice (win0_5.rect t)).set
  rw [View.set_slice_whole, Rect.mem_set_unit]
  refine fin2_all ⟨?_, ?_⟩ ⟨?_, ?_⟩
  · exact (e0 t).1.trans_le (Nat.zero_le _)
  · show (i 0).val < win0_5.index t 0 * win0_5.size 0 + win0_5.xsize (grid0.coords t) 0
    rw [(e0 t).1, (e0 t).2]; omega
  · refine (e1 t).1.trans_le ?_; show 128 * t.val ≤ (i 1).val; omega
  · show (i 1).val < win0_5.index t 1 * win0_5.size 1 + win0_5.xsize (grid0.coords t) 1
    rw [(e1 t).1, (e1 t).2]; omega
/-- The marks' blocks cover the array. -/
theorem cover6 (i : S5456x200.Idx) : ∃ t : Fin cfg0.N, i ∈ (win0_6.blk t).view.setOn Finset.univ := by
  have e0 : ∀ t : Fin cfg0.N, win0_6.index t 0 * win0_6.size 0 = 0 ∧ win0_6.xsize (grid0.coords t) 0 = 5456 := by decide +kernel
  have e1 : ∀ t : Fin cfg0.N, win0_6.index t 1 * win0_6.size 1 = 128 * t.val ∧ win0_6.xsize (grid0.coords t) 1 = min 128 (200 - 128 * t.val) := by decide +kernel
  have h0 : (i 0).val < 5456 := (i 0).isLt
  have h1 : (i 1).val < 200 := (i 1).isLt
  have hN : cfg0.N = 2 := by decide
  obtain ⟨t, ht⟩ : ∃ t : Fin cfg0.N, t.val = (i 1).val / 128 := ⟨⟨(i 1).val / 128, by rw [hN]; omega⟩, rfl⟩
  refine ⟨t, ?_⟩
  rw [View.setOn_univ]
  show i ∈ ((View.whole main_call0_v7_1).slice (win0_6.rect t)).set
  rw [View.set_slice_whole, Rect.mem_set_unit]
  refine fin2_all ⟨?_, ?_⟩ ⟨?_, ?_⟩
  · exact (e0 t).1.trans_le (Nat.zero_le _)
  · show (i 0).val < win0_6.index t 0 * win0_6.size 0 + win0_6.xsize (grid0.coords t) 0
    rw [(e0 t).1, (e0 t).2]; omega
  · refine (e1 t).1.trans_le ?_; show 128 * t.val ≤ (i 1).val; omega
  · show (i 1).val < win0_6.index t 1 * win0_6.size 1 + win0_6.xsize (grid0.coords t) 1
    rw [(e1 t).1, (e1 t).2]; omega

/-- The weights' array after the region. -/
theorem arr5 (c : Dev nD) : (dats m (val5 m) (val6 m) 0 c).arrAt 5 cfg0.N = finW m c :=
  (dats m (val5 m) (val6 m) 0 c).arrAt_eq_of_cover (5 : Fin 7) (finW m c) (fun t _ => cut_after_5 m c t) fun (i : S5456x200.Idx) => (cover5 i).imp fun t h =>
    ⟨flush0_5 t, by rw [View.setOn_univ] at h; exact h⟩
/-- The marks' array after the region. -/
theorem arr6 (c : Dev nD) : (dats m (val5 m) (val6 m) 0 c).arrAt 6 cfg0.N = finM m c :=
  (dats m (val5 m) (val6 m) 0 c).arrAt_eq_of_cover (6 : Fin 7) (finM m c) (fun t _ => cut_after_6 m c t) fun (i : S5456x200.Idx) => (cover6 i).imp fun t h =>
    ⟨flush0_6 t, by rw [View.setOn_univ] at h; exact h⟩

/-- The mask after the last host lines: the marks compared with zero. -/
theorem after_mask (W : Valuation τ sig (Elt Ideal)) :
    StableHlo.after (List.flatten [hostOps1 (F := Ideal)]) W (Proc.devRef .tc main_v0_1)
      = fun j => IntOp.cmpi .ne ((W (Proc.devRef .tc main_call0_v7_1) : IVec S5456x200 32) j) 0#32 := by
  after_reads_simp
  rfl

set_option backward.isDefEq.respectTransparency.types false in
/-- THE RUN with its results. -/
theorem run_value : θ_run defs (onTc (τ := τ) (main (F := Ideal))) ⟨m, fun _ => 0, ρ⟩ (fun r => ∀ c : Dev nD,
      r.2.mem ((c.tc : Thread nD τ).loc main_v0_0) = finW m c
      ∧ r.2.mem ((c.tc : Thread nD τ).loc main_v0_1) = (fun j => IntOp.cmpi .ne (finM m c j) 0#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_frame_around cfgs (dats m (val5 m) (val6 m)) (0 : Fin 1) launch0 defs₀ Variants.none m ρ main
    (hbody := body_exact m) (hshare := fun c => (dats m (val5 m) (val6 m) 0 c).share_full fun _ => rfl) (howed := fun _ _ => rfl)
    (V₀ := V0 m) (opss := [hostOps1]) sfx_sub sfx_fresh sfx_keeps
    (hmain := hmain m Variants.none) (hA := A_eq m (val5 m) (val6 m)) (hΦ := fun _ _ => rfl) (Q' := _) (hQ' := ?_)
  rintro r ⟨h, -⟩ c
  have key : ∀ b : Ref sig .tc, b ∈ Pipeline.restRefs sig spec0 → b ∉ preRefs → b ∉ postRefs → (∀ w, Pipeline.arrRef spec0 w ≠ b) →
      r.2.mem ((c.tc : Thread nD τ).loc b) = m ((c.tc : Thread nD τ).loc b) := fun b hb h1 h2 h3 =>
    ((h c).2 b hb).trans (W_keep m (dats m (val5 m) (val6 m)) c b h1 h2 h3)
  refine ⟨((h c).1 5).trans (arr5 m c), ?_, ?_, ?_, ?_, ?_, ?_, ?_, ?_, ?_, ?_, ?_⟩
  · refine ((h c).2 main_v0_1 (Pipeline.mem_restRefs_of _ (by decide) (by decide))).trans ?_
    unfold Pipeline.afterTail₀
    rw [after_mask]
    funext j
    refine congrArg (IntOp.cmpi .ne · 0#32) (congrFun (?_ : _ = finM m c) j)
    exact (Pipeline.withArrays_arr spec0 launch0.win.arr_inj c (V0 m c) _ 6).trans (arr6 m c)
  all_goals
    exact key _ (Pipeline.mem_restRefs_of _ (by decide) (by decide)) (by decide) (by decide) (by decide)

end Cert.Assign

end
-- ==== Proof.Reads.lean ====
/-
  The arrays as the region finds them, element by element, in the kernel's arguments.
-/
module

public import proofs.«01_k».proof.Proof.Run
public import Idealize.ShloMosaic.Lib.Tactic.CleanTypes

@[expose] public section

set_option maxRecDepth 16384

noncomputable section

namespace Cert.Assign

open Cert.KernelIdeal Cert.KernelIdeal.Gen
open Idealize.ShloMosaic Idealize.ShloMosaic.TcCoe

variable (m : (ℓ : Loc nD τ sig) → Buf (Elt Ideal) ℓ) (c : Dev nD)

/-- The boxes, transposed. -/
theorem V_boxes (k : Fin 4) (g : Fin 200) :
    (V m c main_call0_v1 (ix2 k g) : EReal) = (m ((c : Thread nD τ).loc main_arg5) : FVec Ideal S200x4 .f32) (ix2 g k) := by
  have h : V m c main_call0_v1 = transpose S4x200 [1, 0] (m ((c : Thread nD τ).loc main_arg5) : FVec Ideal S200x4 .f32) transposes_S200x4_S4x200_1_0 := by
    unfold V V0
    after_reads_simp
    rfl
  rw [h]
  pointwise

/-- The labels, as a row. -/
theorem V_labels (g : Fin 200) : V m c main_call0_v5 (ix2 0 g) = (m ((c : Thread nD τ).loc main_arg8) : IVec S200 32) (ix1 g) := by
  have h : V m c main_call0_v5 = shapeCast S1x200 (m ((c : Thread nD τ).loc main_arg8) : IVec S200 32) shapeCasts_S200_S1x200 := by
    unfold V V0
    after_reads_simp
    rfl
  rw [h]
  pointwise

/-- The inside marks, widened to words. -/
theorem V_inside (R : Fin 5456) (g : Fin 200) :
    V m c main_call0_v6 (ix2 R g) = BitVec.setWidth 32 ((m ((c : Thread nD τ).loc main_arg9) : IVec S5456x200 1) (ix2 R g)) := by
  have h : V m c main_call0_v6 = extui 32 (m ((c : Thread nD τ).loc main_arg9) : IVec S5456x200 1) natLt_1_32 := by
    unfold V V0
    after_reads_simp
    rfl
  rw [h]
  rfl

/-- The table of means and sigmas is the means' columns over the sigmas'. -/
theorem V_table : V m c main_call0_v4 = concatenate S4x80 0
    [⟨S2x80, transpose S2x80 [1, 0] (m ((c : Thread nD τ).loc main_arg6) : FVec Ideal S80x2 .f32) transposes_S80x2_S2x80_1_0⟩,
     ⟨S2x80, transpose S2x80 [1, 0] (m ((c : Thread nD τ).loc main_arg7) : FVec Ideal S80x2 .f32) transposes_S80x2_S2x80_1_0⟩]
    concatenates_S2x80_S2x80_S4x80_d0 := by
  unfold V V0
  after_reads_simp
  rfl

/-- Row 0 of the table is the classes' horizontal means. -/
theorem V_mean0 (x : Fin 80) : (V m c main_call0_v4 (ix2 0 x) : EReal) = (m ((c : Thread nD τ).loc main_arg6) : FVec Ideal S80x2 .f32) (ix2 x 0) := by
  rw [V_table]; pointwise
/-- Row 1 is their vertical means. -/
theorem V_mean1 (x : Fin 80) : (V m c main_call0_v4 (ix2 1 x) : EReal) = (m ((c : Thread nD τ).loc main_arg6) : FVec Ideal S80x2 .f32) (ix2 x 1) := by
  rw [V_table]; pointwise
/-- Row 2 is their horizontal sigmas. -/
theorem V_sigma0 (x : Fin 80) : (V m c main_call0_v4 (ix2 2 x) : EReal) = (m ((c : Thread nD τ).loc main_arg7) : FVec Ideal S80x2 .f32) (ix2 x 0) := by
  rw [V_table]; pointwise
/-- Row 3 is their vertical sigmas. -/
theorem V_sigma1 (x : Fin 80) : (V m c main_call0_v4 (ix2 3 x) : EReal) = (m ((c : Thread nD τ).loc main_arg7) : FVec Ideal S80x2 .f32) (ix2 x 1) := by
  rw [V_table]; pointwise

/-- The points are the five levels' one under the other. -/
theorem V_points : V m c main_call0_v0 = concatenate S5456x2 0
    [⟨S4096x2, (m ((c : Thread nD τ).loc main_arg0) : FVec Ideal S4096x2 .f32)⟩, ⟨S1024x2, (m ((c : Thread nD τ).loc main_arg1) : FVec Ideal S1024x2 .f32)⟩,
     ⟨S256x2, (m ((c : Thread nD τ).loc main_arg2) : FVec Ideal S256x2 .f32)⟩, ⟨S64x2, (m ((c : Thread nD τ).loc main_arg3) : FVec Ideal S64x2 .f32)⟩,
     ⟨S16x2, (m ((c : Thread nD τ).loc main_arg4) : FVec Ideal S16x2 .f32)⟩] concatenates_S4096x2_S1024x2_S256x2_S64x2_S16x2_S5456x2_d0 := by
  unfold V V0
  after_reads_simp
  rfl

end Cert.Assign
-- ==== Proof.Equation.lean ====
/-
  The kernel's results and the reference's, column by column, are the same under the precondition.
-/
module

public import proofs.«01_k».proof.Proof.PreFacts
public import proofs.«01_k».proof.Proof.Reads

@[expose] public section

set_option maxRecDepth 16384

noncomputable section

namespace Cert.Assign

open Cert.KernelIdeal Cert.KernelIdeal.Gen
open Idealize.ShloMosaic Idealize.ShloMosaic.TcCoe

/-- The reference's arguments are the kernel's. -/
structure Same (m : (ℓ : Loc nD τ sig) → Buf (Elt Ideal) ℓ) (c : Dev nD) (W : Valuation ReferenceIdeal.τ ReferenceIdeal.sig (Elt Ideal)) : Prop where
  s0 : (W (Proc.devRef .tc ReferenceIdeal.main_arg0) : FVec Ideal S4096x2 .f32) = m ((c : Thread nD τ).loc main_arg0)
  s1 : (W (Proc.devRef .tc ReferenceIdeal.main_arg1) : FVec Ideal S1024x2 .f32) = m ((c : Thread nD τ).loc main_arg1)
  s2 : (W (Proc.devRef .tc ReferenceIdeal.main_arg2) : FVec Ideal S256x2 .f32) = m ((c : Thread nD τ).loc main_arg2)
  s3 : (W (Proc.devRef .tc ReferenceIdeal.main_arg3) : FVec Ideal S64x2 .f32) = m ((c : Thread nD τ).loc main_arg3)
  s4 : (W (Proc.devRef .tc ReferenceIdeal.main_arg4) : FVec Ideal S16x2 .f32) = m ((c : Thread nD τ).loc main_arg4)
  s5 : (W (Proc.devRef .tc ReferenceIdeal.main_arg5) : FVec Ideal S200x4 .f32) = m ((c : Thread nD τ).loc main_arg5)
  s6 : (W (Proc.devRef .tc ReferenceIdeal.main_arg6) : FVec Ideal S80x2 .f32) = m ((c : Thread nD τ).loc main_arg6)
  s7 : (W (Proc.devRef .tc ReferenceIdeal.main_arg7) : FVec Ideal S80x2 .f32) = m ((c : Thread nD τ).loc main_arg7)
  s8 : (W (Proc.devRef .tc ReferenceIdeal.main_arg8) : IVec S200 32) = m ((c : Thread nD τ).loc main_arg8)
  s9 : (W (Proc.devRef .tc ReferenceIdeal.main_arg9) : IVec S5456x200 1) = m ((c : Thread nD τ).loc main_arg9)

variable {m : (ℓ : Loc nD τ sig) → Buf (Elt Ideal) ℓ} {c : Dev nD} {W : Valuation ReferenceIdeal.τ ReferenceIdeal.sig (Elt Ideal)}

/-- The multiplier of a level is its stride's reciprocal. -/
theorem recip_row (R : Fin 5456) : Recip (invOf R) (strideOf R) := by
  unfold invOf strideOf
  split_ifs
  exacts [recip8, recip16, recip32, recip64, recip128]

/-- The kernel's array of points is the reference's five arguments one under the other. -/
theorem points_levels (hs : Same m c W) : Levels (V m c main_call0_v0)
    (W (Proc.devRef .tc ReferenceIdeal.main_arg0)) (W (Proc.devRef .tc ReferenceIdeal.main_arg1))
    (W (Proc.devRef .tc ReferenceIdeal.main_arg2)) (W (Proc.devRef .tc ReferenceIdeal.main_arg3)) (W (Proc.devRef .tc ReferenceIdeal.main_arg4)) where
  lev0 R r k h := (congrFun (V_points m c) _).trans ((cat0 _ _ _ _ _ _ R r k h).trans (congrFun hs.s0 _).symm)
  lev1 R r k h := (congrFun (V_points m c) _).trans ((cat1 _ _ _ _ _ _ R r k h).trans (congrFun hs.s1 _).symm)
  lev2 R r k h := (congrFun (V_points m c) _).trans ((cat2 _ _ _ _ _ _ R r k h).trans (congrFun hs.s2 _).symm)
  lev3 R r k h := (congrFun (V_points m c) _).trans ((cat3 _ _ _ _ _ _ R r k h).trans (congrFun hs.s3 _).symm)
  lev4 R r k h := (congrFun (V_points m c) _).trans ((cat4 _ _ _ _ _ _ R r k h).trans (congrFun hs.s4 _).symm)

section weights
variable (hs : Same m c W) (g : Fin 200) (lab : Fin 80)
  (hl : (W (Proc.devRef .tc ReferenceIdeal.main_arg8) : IVec S200 32) (ix1 g) = BitVec.ofNat 32 lab.val)
include hs hl

/-- A class's mean or sigma, as the kernel picks it and as the reference gathers it. -/
theorem pick_mean (k : Fin 2) (k' : Fin 4) (hk : k'.val = k.val) :
    pick (V m c main_call0_v4) (V m c main_call0_v5 (ix2 0 g)) k' = ReferenceIdeal.Value.res_main_v25 W (ix3 0 g k) := by
  have hlab : V m c main_call0_v5 (ix2 0 g) = BitVec.ofNat 32 lab.val := (V_labels m c g).trans ((congrFun hs.s8 _).symm.trans hl)
  refine (one_hot (fun x => V m c main_call0_v4 (ix2 k' x)) _ lab hlab).trans ?_
  refine Eq.trans ?_ ((v25_apply W g k lab hl).trans (congrFun hs.s6 _)).symm
  match k, k', hk with
  | 0, 0, _ => exact V_mean0 m c lab
  | 1, 1, _ => exact V_mean1 m c lab

/-- A class's sigma, as the kernel picks it and as the reference gathers it. -/
theorem pick_sigma (k : Fin 2) (k' : Fin 4) (hk : k'.val = 2 + k.val) :
    pick (V m c main_call0_v4) (V m c main_call0_v5 (ix2 0 g)) k' = ReferenceIdeal.Value.res_main_v33 W (ix3 0 g k) := by
  have hlab : V m c main_call0_v5 (ix2 0 g) = BitVec.ofNat 32 lab.val := (V_labels m c g).trans ((congrFun hs.s8 _).symm.trans hl)
  refine (one_hot (fun x => V m c main_call0_v4 (ix2 k' x)) _ lab hlab).trans ?_
  refine Eq.trans ?_ ((v33_apply W g k lab hl).trans (congrFun hs.s7 _)).symm
  match k, k', hk with
  | 0, 2, _ => exact V_sigma0 m c lab
  | 1, 3, _ => exact V_sigma1 m c lab

/-- A box's weight of a point, the kernel's and the reference's, where neither sigma is zero. -/
theorem wcol_eq (h0 : @Ne EReal (ReferenceIdeal.Value.res_main_v33 W (ix3 0 g 0)) 0) (h1 : @Ne EReal (ReferenceIdeal.Value.res_main_v33 W (ix3 0 g 1)) 0) (R : Fin 5456) :
    wcol m c g R = rcol W g R := by
  refine Eq.trans ?_ (v139_apply W _ (points_levels hs) g R).symm
  let B : Fin 4 → EReal := fun k => V m c main_call0_v1 (ix2 k g)
  have b : ∀ k, B k = (W (Proc.devRef .tc ReferenceIdeal.main_arg5) : FVec Ideal S200x4 .f32) (ix2 g k) :=
    fun k => (V_boxes m c k g).trans (congrFun hs.s5 _).symm
  have c0 : (B 0 + B 2) * Ideal.ofBits .f32 0x3F000000#32 = ReferenceIdeal.Value.res_main_v17 W (ix3 0 g 0) := by
    rw [b, b]; exact (div_recip recip2 _).symm.trans (v17_0 W g).symm
  have c1 : (B 1 + B 3) * Ideal.ofBits .f32 0x3F000000#32 = ReferenceIdeal.Value.res_main_v17 W (ix3 0 g 1) := by
    rw [b, b]; exact (div_recip recip2 _).symm.trans (v17_1 W g).symm
  show kw (invOf R) _ _ ((B 0 + B 2) * Ideal.ofBits .f32 0x3F000000#32) ((B 1 + B 3) * Ideal.ofBits .f32 0x3F000000#32) (pick _ _ 0) (pick _ _ 1)
    (nf (pick _ _ 2)) (nf (pick _ _ 3)) = _
  rw [c0, c1, pick_mean hs g lab hl 0 0 rfl, pick_mean hs g lab hl 1 1 rfl, pick_sigma hs g lab hl 0 2 rfl, pick_sigma hs g lab hl 1 3 rfl]
  exact kw_eq (recip_row R) _ _ _ _ _ _ _ _ h0 h1
end weights

/-! ## Under the precondition -/

theorem rcol_nonneg (hs : Same m c W) (g : Fin 200) (R : Fin 5456) : 0 ≤ rcol W g R := by
  refine le_of_le_of_eq ?_ (v139_apply W _ (points_levels hs) g R).symm
  exact mul_nonneg (rf_nonneg _ _ _ _ _) (rf_nonneg _ _ _ _ _)

/-- A weight with a zero sigma is zero. -/
theorem rw2_left (s px py cx cy mx my σx σy : EReal) (h : σx = 0) : rw2 s px py cx cy mx my σx σy = 0 := by
  rw [rw2, h, rf_zero, zero_mul]
/-- The same where the other sigma is zero. -/
theorem rw2_right (s px py cx cy mx my σx σy : EReal) (h : σy = 0) : rw2 s px py cx cy mx my σx σy = 0 := by
  rw [rw2, h, rf_zero, mul_zero]

/-- Neither sigma of a box's class is zero: with a zero one all the box's weights would be zero and equal. -/
theorem sigma_ne (hs : Same m c W) (hp : preBits W = fun _ => 1#1) (g : Fin 200) (k : Fin 2) :
    @Ne EReal (ReferenceIdeal.Value.res_main_v33 W (ix3 0 g k)) 0 := by
  intro h
  have hz : ∀ R, rcol W g R = 0 := fun R => by
    refine (v139_apply W _ (points_levels hs) g R).trans ?_
    rcases (by omega : k = 0 ∨ k = 1) with rfl | rfl
    · exact rw2_left _ _ _ _ _ _ _ _ _ h
    · exact rw2_right _ _ _ _ _ _ _ _ _ h
  have := strict W hp g ⟨0, by decide⟩ ⟨1, by decide⟩ (by decide) rfl
  rw [hz, hz] at this
  exact lt_irrefl _ this

variable (hs : Same m c W) (hp : preBits W = fun _ => 1#1)
include hs hp

/-- Under the precondition the kernel's weights of a box are the reference's. -/
theorem wcol_rcol (g : Fin 200) : wcol m c g = rcol W g := by
  obtain ⟨lab, hl⟩ := (pre_split W hp g).1
  exact funext fun R => wcol_eq hs g lab hl (sigma_ne hs hp g 0) (sigma_ne hs hp g 1) R

omit hs hp in
/-- A bit widened to a word is zero when the bit is not set. -/
theorem bit_wide : ∀ b : BitVec 1, BitVec.setWidth 32 b = 0#32 ↔ b ≠ 1#1 := by decide

/-- The marks agree. -/
theorem mcol_iff (g : Fin 200) (R : Fin 5456) : mcol m c g R ↔ ref166 W (ix2 R g) = 1#1 := by
  have hx : ∀ r : Fin 5456, V m c main_call0_v6 (ix2 r g) = 0#32 ↔ (W (Proc.devRef .tc ReferenceIdeal.main_arg9) : IVec S5456x200 1) (ix2 r g) ≠ 1#1 := fun r => by
    rw [V_inside, ← congrFun hs.s9]
    exact bit_wide _
  have hstep := steps_neg_iff mk (by rw [mk, ofBits_neg_one]; norm_num) (n := 5456) (by decide) (rcol W g) (rcol_nonneg hs g) (order (rcol W g))
    (order_surjective _) 9 (by decide) (order_anti _) (strict W hp g) R
  rw [ref166_apply]
  unfold mcol colMark
  rw [wcol_rcol hs hp g]
  by_cases e : ∀ r : Fin 5456, V m c main_call0_v6 (ix2 r g) = 0#32
  · rw [if_pos e, if_pos fun r => (hx r).1 (e r)]
    exact hstep
  · rw [if_neg e, if_neg fun q => e fun r => (hx r).2 (q r)]
    exact (not_congr (hx R)).trans not_not

/-! ## The results -/

open Classical in
/-- The masks agree. -/
theorem mask_eq : (fun j => IntOp.cmpi .ne (finM m c j) 0#32) = ref166 W := by
  funext j
  rw [eq_ix2 j]
  have h := mcol_iff hs hp (j 1) (j 0)
  show IntOp.cmpi .ne (if mcol m c (j 1) (j 0) then 1#32 else 0#32) 0#32 = _
  by_cases e : mcol m c (j 1) (j 0)
  · rw [if_pos e, h.1 e]; rfl
  · rw [if_neg e, ValueIdx.eq_zero_of_ne_one fun q => e (h.2 q)]; rfl

open Classical in
/-- The weights agree. -/
theorem weights_eq : finW m c = ref167 W := by
  funext j
  rw [eq_ix2 j]
  refine Eq.trans ?_ (ref167_apply W (j 1) (j 0)).symm
  show (if mcol m c (j 1) (j 0) then wcol m c (j 1) (j 0) else (0 : EReal)) = _
  exact if_congr (mcol_iff hs hp (j 1) (j 0)) (congrFun (wcol_rcol hs hp (j 1)) (j 0)) rfl

end Cert.Assign
-- ==== Proof.Claims.lean ====
/-
  The claims: each program runs, keeps its arguments and leaves its counters at zero; and at the ideal reading the kernel's results
  are the reference's.
-/
module

public import proofs.«01_k».proof.Proof.Transport
public import proofs.«01_k».proof.Proof.Gen.ReferenceIdeal.Run
public import proofs.«01_k».proof.Proof.Gen.Pre_no_tie
public import proofs.«01_k».proof.Proof.Equation

@[expose] public section

noncomputable section

namespace Cert.Assign

open Idealize.ShloMosaic Idealize.SL.Sem

/-- The kernel's frame under the claim's precondition: the same, the precondition unused. -/
theorem frame_kernel_no_tie :
    Cert.quiescent_Kernel_pre_no_tie (hKernel := Cert.Kernel.Gen.facts) (hPre_no_tie := Cert.Pre_no_tie.Gen.facts) :=
  fun m g _ => frame_kernel m g trivial

/-- The frame of the kernel at the ideal reading. -/
theorem frame_ideal :
    Cert.quiescent_KernelIdeal (hKernelIdeal := Cert.KernelIdeal.Gen.facts) (hPre_no_tie := Cert.Pre_no_tie.Gen.facts) :=
  fun m g _ => Cert.Assign.frame (F := Ideal) m g

/-- The reference is a straight line of host operations: it runs, keeps its arguments, and declares no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run (F := Ideal) m g)

/-- The reference's frame under the claim's precondition: the same, the precondition unused. -/
theorem frame_reference_no_tie :
    Cert.quiescent_ReferenceIdeal_pre_no_tie (hReferenceIdeal := Cert.ReferenceIdeal.Gen.facts) (hPre_no_tie := Cert.Pre_no_tie.Gen.facts) :=
  fun m g _ => frame_reference m g trivial

/-- From memories agreeing on the arguments, under the precondition, the kernel's weights and mask are the reference's. -/
theorem algebraic :
    Cert.algebraic_KernelIdeal_ReferenceIdeal (hKernelIdeal := Cert.KernelIdeal.Gen.facts) (hReferenceIdeal := Cert.ReferenceIdeal.Gen.facts)
      (hPre_no_tie := Cert.Pre_no_tie.Gen.facts) := by
  intro m g m' g' hpre hsame
  have hs : ∀ c, Same m c (StableHlo.launchContents m' c) := fun c =>
    let ⟨h0, h1, h2, h3, h4, h5, h6, h7, h8, h9⟩ := hsame c
    ⟨h0, h1, h2, h3, h4, h5, h6, h7, h8, h9⟩
  have hp : ∀ c : Dev Cert.KernelIdeal.nD, preBits (StableHlo.launchContents m' c) = fun _ => 1#1 := fun c => by
    rw [← preBits_eq, (hs c).s0, (hs c).s1, (hs c).s2, (hs c).s3, (hs c).s4, (hs c).s5, (hs c).s6, (hs c).s7, (hs c).s8, (hs c).s9]
    exact hpre c
  refine ⟨fun c => finW m c, fun c => fun j => IntOp.cmpi .ne (finM m c j) 0#32, run_value m g, ?_⟩
  refine (θ_run Cert.ReferenceIdeal.defs _ _).mono (fun r h c => ?_) (Cert.ReferenceIdeal.Value.run (F := Ideal) m' g')
  exact ⟨(h c).1.trans (weights_eq (hs c) (hp c)).symm, (h c).2.1.trans (mask_eq (hs c) (hp c)).symm, (h c).2.2⟩

end Cert.Assign

end
-- ==== Proof.lean ====
/-
  The certificate's claims, assembled.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_no_tie
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Every claim of this certificate. -/
theorem claim : Cert.Claim := ⟨Cert.Kernel.Gen.facts, Cert.KernelIdeal.Gen.facts, Cert.ReferenceIdeal.Gen.facts, Cert.Pre_no_tie.Gen.facts,
  Cert.Assign.frame_kernel, Cert.Assign.frame_kernel_no_tie, Cert.Assign.frame_ideal, Cert.Assign.frame_reference,
  Cert.Assign.frame_reference_no_tie, trivial, Cert.Assign.algebraic⟩

end Cert.Proof

end
